-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 1]⟩ ⟨2, ![2048, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![2048, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S256x256 : Shape := ⟨2, ![256, 256]⟩
abbrev S8x272x256 : Shape := ⟨3, ![8, 272, 256]⟩
abbrev S7 : Shape := ⟨1, ![7]⟩
abbrev S256 : Shape := ⟨1, ![256]⟩
abbrev S1x256 : Shape := ⟨2, ![1, 256]⟩
abbrev S1x256x256 : Shape := ⟨3, ![1, 256, 256]⟩
abbrev S1x1x256 : Shape := ⟨3, ![1, 1, 256]⟩
abbrev S1x2x256 : Shape := ⟨3, ![1, 2, 256]⟩
abbrev S_ : Shape := ⟨0, ![]⟩
abbrev S1 : Shape := ⟨1, ![1]⟩
abbrev S1x272x256 : Shape := ⟨3, ![1, 272, 256]⟩
abbrev S272x256 : Shape := ⟨2, ![272, 256]⟩
abbrev S1x128x256 : Shape := ⟨3, ![1, 128, 256]⟩
abbrev S128x256 : Shape := ⟨2, ![128, 256]⟩
abbrev S8x1x256 : Shape := ⟨3, ![8, 1, 256]⟩
abbrev S8x256 : Shape := ⟨2, ![8, 256]⟩
abbrev S8x1 : Shape := ⟨2, ![8, 1]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x1, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S128x16, .f32⟩
  | .local _ .vmem, ⟨2, _⟩ => ⟨S256x1, .i32⟩
  | .local _ .vmem, ⟨3, _⟩ => ⟨S2x128x256, .f32⟩
  | .local _ .vmem, ⟨4, _⟩ => ⟨S256x256, .f32⟩
  | .local _ .vmem, ⟨5, _⟩ => ⟨S8x272x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : Index := Scalar.indexCast v2
  let c0_4 : Index := 0#32
  let c0_5 : Index := 0#32
  ![v16.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v21 : Index := Scalar.indexCast v2
  let c256 : Index := 256#32
  let c0_6 : Index := 0#32
  ![v21.toNat, 256, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v21 : Index := Scalar.indexCast v2
  let c256 : Index := 256#32
  let c0_6 : Index := 0#32
  ![v21.toNat, 256, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v26 : BitVec 32 := Scalar.addi v2 c1_i32_7
  let c8_i32_8 : BitVec 32 := 8#32
  let v27 : BitVec 32 := Scalar.remsi v26 c8_i32_8
  let c1_i32_10 : BitVec 32 := 1#32
  let v28 : BitVec 32 := Scalar.muli v27 c1_i32_10
  let v29 : BitVec 32 := Scalar.addi c0_i32 v28
  v29.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v30 : BitVec 32 := Scalar.addi v2 c2_i32
  let c8_i32_11 : BitVec 32 := 8#32
  let v31 : BitVec 32 := Scalar.remsi v30 c8_i32_11
  let c1_i32_13 : BitVec 32 := 1#32
  let v32 : BitVec 32 := Scalar.muli v31 c1_i32_13
  let v33 : BitVec 32 := Scalar.addi c0_i32_14 v32
  v33.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v34 : BitVec 32 := Scalar.addi v2 c3_i32
  let c8_i32_15 : BitVec 32 := 8#32
  let v35 : BitVec 32 := Scalar.remsi v34 c8_i32_15
  let c1_i32_17 : BitVec 32 := 1#32
  let v36 : BitVec 32 := Scalar.muli v35 c1_i32_17
  let v37 : BitVec 32 := Scalar.addi c0_i32_18 v36
  v37.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v38 : BitVec 32 := Scalar.addi v2 c4_i32
  let c8_i32_19 : BitVec 32 := 8#32
  let v39 : BitVec 32 := Scalar.remsi v38 c8_i32_19
  let c1_i32_21 : BitVec 32 := 1#32
  let v40 : BitVec 32 := Scalar.muli v39 c1_i32_21
  let v41 : BitVec 32 := Scalar.addi c0_i32_22 v40
  v41.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v42 : BitVec 32 := Scalar.addi v2 c5_i32
  let c8_i32_23 : BitVec 32 := 8#32
  let v43 : BitVec 32 := Scalar.remsi v42 c8_i32_23
  let c1_i32_25 : BitVec 32 := 1#32
  let v44 : BitVec 32 := Scalar.muli v43 c1_i32_25
  let v45 : BitVec 32 := Scalar.addi c0_i32_26 v44
  v45.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v46 : BitVec 32 := Scalar.addi v2 c6_i32
  let c8_i32_27 : BitVec 32 := 8#32
  let v47 : BitVec 32 := Scalar.remsi v46 c8_i32_27
  let c1_i32_29 : BitVec 32 := 1#32
  let v48 : BitVec 32 := Scalar.muli v47 c1_i32_29
  let v49 : BitVec 32 := Scalar.addi c0_i32_30 v48
  v49.toNat
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v50 : BitVec 32 := Scalar.addi v2 c7_i32
  let c8_i32_31 : BitVec 32 := 8#32
  let v51 : BitVec 32 := Scalar.remsi v50 c8_i32_31
  let c1_i32_33 : BitVec 32 := 1#32
  let v52 : BitVec 32 := Scalar.muli v51 c1_i32_33
  let v53 : BitVec 32 := Scalar.addi c0_i32_34 v52
  v53.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_42 : BitVec 32 := 0#32
  let c0_i32_43 : BitVec 32 := 0#32
  ![v2.toNat, 0, 0]
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v54 : BitVec 32 := Scalar.addi v2 c1_i32_36
  let c8_i32_37 : BitVec 32 := 8#32
  let v55 : BitVec 32 := Scalar.remsi v54 c8_i32_37
  let c1_i32_40 : BitVec 32 := 1#32
  let v56 : BitVec 32 := Scalar.muli v55 c1_i32_40
  let v57 : BitVec 32 := Scalar.addi c0_i32_41 v56
  v57.toNat
def k0_dev9 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v66 : BitVec 32 := Scalar.addi v2 c2_i32_46
  let c8_i32_47 : BitVec 32 := 8#32
  let v67 : BitVec 32 := Scalar.remsi v66 c8_i32_47
  let c1_i32_50 : BitVec 32 := 1#32
  let v68 : BitVec 32 := Scalar.muli v67 c1_i32_50
  let v69 : BitVec 32 := Scalar.addi c0_i32_51 v68
  v69.toNat
def k0_dev10 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_56 : BitVec 32 := 3#32
  let v78 : BitVec 32 := Scalar.addi v2 c3_i32_56
  let c8_i32_57 : BitVec 32 := 8#32
  let v79 : BitVec 32 := Scalar.remsi v78 c8_i32_57
  let c1_i32_60 : BitVec 32 := 1#32
  let v80 : BitVec 32 := Scalar.muli v79 c1_i32_60
  let v81 : BitVec 32 := Scalar.addi c0_i32_61 v80
  v81.toNat
def k0_dev11 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_66 : BitVec 32 := 4#32
  let v90 : BitVec 32 := Scalar.addi v2 c4_i32_66
  let c8_i32_67 : BitVec 32 := 8#32
  let v91 : BitVec 32 := Scalar.remsi v90 c8_i32_67
  let c1_i32_70 : BitVec 32 := 1#32
  let v92 : BitVec 32 := Scalar.muli v91 c1_i32_70
  let v93 : BitVec 32 := Scalar.addi c0_i32_71 v92
  v93.toNat
def k0_dev12 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_76 : BitVec 32 := 5#32
  let v102 : BitVec 32 := Scalar.addi v2 c5_i32_76
  let c8_i32_77 : BitVec 32 := 8#32
  let v103 : BitVec 32 := Scalar.remsi v102 c8_i32_77
  let c1_i32_80 : BitVec 32 := 1#32
  let v104 : BitVec 32 := Scalar.muli v103 c1_i32_80
  let v105 : BitVec 32 := Scalar.addi c0_i32_81 v104
  v105.toNat
def k0_dev13 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_86 : BitVec 32 := 6#32
  let v114 : BitVec 32 := Scalar.addi v2 c6_i32_86
  let c8_i32_87 : BitVec 32 := 8#32
  let v115 : BitVec 32 := Scalar.remsi v114 c8_i32_87
  let c1_i32_90 : BitVec 32 := 1#32
  let v116 : BitVec 32 := Scalar.muli v115 c1_i32_90
  let v117 : BitVec 32 := Scalar.addi c0_i32_91 v116
  v117.toNat
def k0_dev14 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_96 : BitVec 32 := 7#32
  let v126 : BitVec 32 := Scalar.addi v2 c7_i32_96
  let c8_i32_97 : BitVec 32 := 8#32
  let v127 : BitVec 32 := Scalar.remsi v126 c8_i32_97
  let c1_i32_100 : BitVec 32 := 1#32
  let v128 : BitVec 32 := Scalar.muli v127 c1_i32_100
  let v129 : BitVec 32 := Scalar.addi c0_i32_101 v128
  v129.toNat
def k0_off5 (d0 : Dev nD) (c1_i32_116 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v174 : BitVec 32 := Scalar.subi v2 c1_i32_116
  let c8_i32_117 : BitVec 32 := 8#32
  let v175 : BitVec 32 := Scalar.addi v174 c8_i32_117
  let c8_i32_118 : BitVec 32 := 8#32
  let v176 : BitVec 32 := Scalar.remsi v175 c8_i32_118
  let c0_i32_123 : BitVec 32 := 0#32
  let c0_i32_124 : BitVec 32 := 0#32
  ![v176.toNat, 0, 0]
def k0_off6 (d0 : Dev nD) (c1_i32_116 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v174 : BitVec 32 := Scalar.subi v2 c1_i32_116
  let c8_i32_117 : BitVec 32 := 8#32
  let v175 : BitVec 32 := Scalar.addi v174 c8_i32_117
  let c8_i32_118 : BitVec 32 := 8#32
  let v176 : BitVec 32 := Scalar.remsi v175 c8_i32_118
  let v194 : Index := Scalar.indexCast v176
  let c0_129 : Index := 0#32
  let c0_130 : Index := 0#32
  ![v194.toNat, 0, 0]
def k0_off7 (d0 : Dev nD) (c1_i32_116 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v174 : BitVec 32 := Scalar.subi v2 c1_i32_116
  let c8_i32_117 : BitVec 32 := 8#32
  let v175 : BitVec 32 := Scalar.addi v174 c8_i32_117
  let c8_i32_118 : BitVec 32 := 8#32
  let v176 : BitVec 32 := Scalar.remsi v175 c8_i32_118
  let v208 : Index := Scalar.indexCast v176
  let c128 : Index := 128#32
  let c0_134 : Index := 0#32
  ![v208.toNat, 128, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x128 : Shape := ⟨2, ![2048, 128]⟩
abbrev S128x16 : Shape := ⟨2, ![128, 16]⟩
abbrev S2048x1 : Shape := ⟨2, ![2048, 1]⟩
abbrev S16x128x256 : Shape := ⟨3, ![16, 128, 256]⟩
abbrev S16 : Shape := ⟨1, ![16]⟩
abbrev S1x16 : Shape := ⟨2, ![1, 16]⟩
abbrev S2048x16 : Shape := ⟨2, ![2048, 16]⟩
abbrev S_ : Shape := ⟨0, ![]⟩
abbrev S2048 : Shape := ⟨1, ![2048]⟩
abbrev S16x256x2048 : Shape := ⟨3, ![16, 256, 2048]⟩
abbrev S16x2048x256 : Shape := ⟨3, ![16, 2048, 256]⟩
abbrev S16x2048 : Shape := ⟨2, ![16, 2048]⟩
abbrev S16x2048x1 : Shape := ⟨3, ![16, 2048, 1]⟩
abbrev S2048x256 : Shape := ⟨2, ![2048, 256]⟩

abbrev nBuf : Space → Nat
  | .hbm => 34
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S128x16, .f32⟩
  | .hbm, ⟨2, _⟩ => ⟨S2048x1, .i32⟩
  | .hbm, ⟨3, _⟩ => ⟨S16x128x256, .f32⟩
  | .hbm, ⟨4, _⟩ => ⟨S16, .i32⟩
  | .hbm, ⟨5, _⟩ => ⟨S1x16, .i32⟩
  | .hbm, ⟨6, _⟩ => ⟨S2048x16, .i32⟩
  | .hbm, ⟨7, _⟩ => ⟨S2048x16, .i32⟩
  | .hbm, ⟨8, _⟩ => ⟨S2048x16, .i1⟩
  | .hbm, ⟨9, _⟩ => ⟨S2048x16, .f32⟩
  | .hbm, ⟨10, _⟩ => ⟨S_, .f32⟩
  | .hbm, ⟨11, _⟩ => ⟨S_, .f32⟩
  | .hbm, ⟨12, _⟩ => ⟨S2048x16, .f32⟩
  | .hbm, ⟨13, _⟩ => ⟨S2048x16, .f32⟩
  | .hbm, ⟨14, _⟩ => ⟨S2048x16, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S16x256x2048, .f32⟩
  | .hbm, ⟨19, _⟩ => ⟨S16x2048x256, .f32⟩
  | .hbm, ⟨20, _⟩ => ⟨S16x2048, .f32⟩
  | .hbm, ⟨21, _⟩ => ⟨S16x2048x1, .f32⟩
  | .hbm, ⟨22, _⟩ => ⟨S16x2048x256, .f32⟩
  | .hbm, ⟨23, _⟩ => ⟨S16x2048x256, .f32⟩
  | .hbm, ⟨24, _⟩ => ⟨S_, .f32⟩
  | .hbm, ⟨25, _⟩ => ⟨S2048x256, .f32⟩
  | .hbm, ⟨26, _⟩ => ⟨S_, .f32⟩
  | .hbm, ⟨27, _⟩ => ⟨S2048x1, .f32⟩
  | .hbm, ⟨28, _⟩ => ⟨S2048x1, .i1⟩
  | .hbm, ⟨29, _⟩ => ⟨S_, .f32⟩
  | .hbm, ⟨30, _⟩ => ⟨S_, .f32⟩
  | .hbm, ⟨31, _⟩ => ⟨S2048x256, .i1⟩
  | .hbm, ⟨32, _⟩ => ⟨S2048x256, .f32⟩
  | .hbm, ⟨33, _⟩ => ⟨S2048x256, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_cst : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Proof.Protocol.lean ====
/-
The protocol of the routed-expert kernel: eight devices on a ring of positions, each gathering every other device's
slab. A slab is a device's two expert weight matrices (rows 0–255) and its count of tokens per expert (row 256).

Device `c` announces itself on the other seven devices' barrier cells — handing each the slab of its own buffer that
device is going to fill — waits for the seven announcements to it, sends its own slab to the seven, and consumes the
seven it receives. This module says which cells there are, who pays what into them, and what each device owes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F]

/-- The peers of a device, by how many positions away they are (less one). -/
abbrev Peer : Type := Fin 7

abbrev UB : Type := URounds (GSem nD τ sig) Peer
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The ring of positions -/

/-- The device `k + 1` positions after `c`: the one `c`'s `k`-th copy goes to. -/
def dst (c : Dev nD) (k : Peer) : Dev nD := (⟨(c.val + (k.val + 1)) % 8, Nat.mod_lt _ (by decide)⟩ : Fin 8)
/-- The device `k + 1` positions before `c`: the one `c`'s `k`-th arriving copy comes from. -/
def src (c : Dev nD) (k : Peer) : Dev nD := (⟨(c.val + 7 - k.val) % 8, Nat.mod_lt _ (by decide)⟩ : Fin 8)

theorem src_dst : ∀ (c : Dev nD) (k : Peer), src (dst c k) k = c := by decide
theorem dst_src : ∀ (c : Dev nD) (k : Peer), dst (src c k) k = c := by decide
theorem src_ne : ∀ (c : Dev nD) (k : Peer), src c k ≠ c := by decide
theorem src_inj : ∀ (c : Dev nD) (k k' : Peer), src c k = src c k' → k = k' := by decide
theorem dst_inj : ∀ (c : Dev nD) (k k' : Peer), dst c k = dst c k' → k = k' := by decide
theorem eq_or_src : ∀ (c p : Dev nD), p = c ∨ ∃ k : Peer, p = src c k := by decide

/-- Going `k + 1` positions on, as a permutation of the devices. -/
def step (k : Peer) : Dev nD ≃ Dev nD := ⟨fun c => dst c k, fun c => src c k, fun c => src_dst c k, fun c => dst_src c k⟩

/-! ## The buffers and the cells -/

abbrev xM : Memref sig .tc .vmem S256x128 .f32 := Memref.whole cc0_stg0_0
abbrev iM : Memref sig .tc .vmem S256x1 .i32 := Memref.whole cc0_stg2_0
abbrev wM : Memref sig .tc .vmem S2x128x256 .f32 := Memref.whole cc0_stg3_0
abbrev oM : Memref sig .tc .vmem S256x256 .f32 := Memref.whole cc0_stg4_0
abbrev bM : Memref sig .tc .vmem S8x272x256 .bf16 := Memref.whole cc0_scratch0

theorem slab_inb (p : Dev nD) : ∀ a, (![p.val, 0, 0] : Fin 3 → ℕ) a + S1x272x256.size a ≤ S8x272x256.size a := by
  revert p; decide

/-- Slab `p` of the gathering buffer, as the kernel addresses it: one 272×256 plane, squeezed. -/
abbrev slabM (p : Dev nD) : Memref sig .tc .vmem S272x256 .bf16 :=
  (bM.slice (Rect.unit (s := S8x272x256) ![p.val, 0, 0] S1x272x256.size (slab_inb p)) (fun _ => rfl)).squeeze S272x256
    squeezes_S1x272x256_S272x256

/-- The indices of slab `p`. -/
def S (p : Dev nD) : Finset S8x272x256.Idx := Finset.univ.filter fun i => (i 0).val = p.val

theorem mem_S {p : Dev nD} {i : S8x272x256.Idx} : i ∈ S p ↔ (i 0).val = p.val := by simp [S]

theorem slab_set (p : Dev nD) : (slabM p).view.set = S p := by
  ext i
  show i ∈ (((View.whole cc0_scratch0).slice _).reshape _ _).set ↔ _
  rw [View.set_reshape, View.set_slice_whole]
  refine (Rect.mem_set_unit).trans ?_
  rw [mem_S]
  have h1 := (i 1).isLt; have h2 := (i 2).isLt
  constructor
  · intro h
    have := h 0
    simp at this; omega
  · intro h a
    fin_cases a <;> simp [h] <;> first | exact h1 | exact h2

theorem S_disjoint {p q : Dev nD} (h : p ≠ q) : Disjoint (S p) (S q) :=
  Finset.disjoint_left.mpr fun i hp hq => h (Fin.ext ((mem_S.mp hp).symm.trans (mem_S.mp hq)))

theorem S_cover : (Finset.univ : Finset (Dev nD)).biUnion S = (Finset.univ : Finset S8x272x256.Idx) :=
  Finset.eq_univ_iff_forall.mpr fun i => Finset.mem_biUnion.mpr ⟨(i 0 : Fin 8), Finset.mem_univ _, mem_S.mpr rfl⟩

/-- The runtime's barrier semaphore, and the `k`-th send and receive semaphores. -/
abbrev barS : Sem sig := (SemArray.scalar (sig.barrier 0 rfl) : Sems sig S_).sem
def sendS (k : Peer) : DmaSem sig := (⟨5 + k.val, by omega⟩ : Fin 19)
def recvS (k : Peer) : DmaSem sig := (⟨12 + k.val, by omega⟩ : Fin 19)

abbrev barCell (c : Dev nD) : GSem nD τ sig := ((c : Thread nD τ), .reg barS)
abbrev sendCell (c : Dev nD) (k : Peer) : GSem nD τ sig := ((c : Thread nD τ), .dma (sendS k))
abbrev recvCell (c : Dev nD) (k : Peer) : GSem nD τ sig := ((c : Thread nD τ), .dma (recvS k))

/-- A copy's credit: the slab's. -/
abbrev N : ℕ := (slabM (0 : Fin 8)).view.dmaCredit
theorem N_pos : 0 < N := View.dmaCredit_pos _ (by decide)
theorem N_eq (p : Dev nD) : (slabM p).view.dmaCredit = N := rfl

/-- The kernel's own cells: the sends, then the receives. -/
def osem (j : Fin 14) : SemLoc sig := if h : j.val < 7 then .dma (sendS ⟨j.val, h⟩) else .dma (recvS ⟨j.val - 7, by omega⟩)

/-! ## Contents -/

/-- What the staging buffers hold on device `c` when the body runs: its blocks of the inputs. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))
def wstg (c : Dev nD) : (cc0_stg3_0 : Ref sig .tc).ty.Contents (Elt F) :=
  (win0_3.blk (0 : Fin 1)).view.read (Elt F) ((s₀ m ρ).mem ((c : Thread nD τ).loc main_arg3))

/-- What the gathered buffer is meant to hold, at every index that means anything: in slab `p` the weights of device `p`
    in rows 0–255 and its counts in row 256 (the rows after those are padding). -/
def want (i : S8x272x256.Idx) : Elt F .bf16 :=
  if h : (i 1).val < 256 then k0_pay4 (wstg m ρ (i 0 : Fin 8)) (ix3 (0 : Fin 1) (⟨(i 1).val, h⟩ : Fin 256) (i 2 : Fin 256))
  else k0_pay5 (istg m ρ (i 0 : Fin 8)) (ix3 (0 : Fin 1) (0 : Fin 1) (i 2 : Fin 256))

/-- Slab `p` of `f` holds what it is meant to, in the rows that mean anything. -/
def Good (p : Dev nD) (f : S8x272x256.Idx → Elt F .bf16) : Prop :=
  ∀ i ∈ S p, (i 1).val ≤ 256 → f i = want m ρ i

abbrev bLoc (c : Dev nD) : Loc nD τ sig := (c : Thread nD τ).loc cc0_scratch0

/-- Slab `p` of device `c`'s buffer, at share `q`, at contents `f`. -/
def slabPts (c p : Dev nD) (q : PosShare TreeShare) (f : S8x272x256.Idx → Elt F .bf16) : sProp 𝕄 := bLoc c ↦[S p]{q} f
/-- The same at some contents, -/
def slabAny (c p : Dev nD) (q : PosShare TreeShare) : sProp 𝕄 := iprop(∃ f, slabPts c p q f)
/-- and at contents that are what they are meant to be. -/
def slabOk (c p : Dev nD) (q : PosShare TreeShare) : sProp 𝕄 := iprop(∃ f, ⌜Good m ρ p f⌝ ∗ slabPts c p q f)

instance slabPts_storable (c p : Dev nD) (q : PosShare TreeShare) (f) : BI.Storable (upEmb : UEmb _ 𝕄) (slabPts (F := F) c p q f) := by
  unfold slabPts; infer_instance
instance slabAny_storable (c p : Dev nD) (q : PosShare TreeShare) : BI.Storable (upEmb : UEmb _ 𝕄) (slabAny (F := F) c p q) := by
  unfold slabAny; infer_instance
instance slabOk_storable (c p : Dev nD) (q : PosShare TreeShare) : BI.Storable (upEmb : UEmb _ 𝕄) (slabOk (F := F) m ρ c p q) := by
  unfold slabOk; infer_instance

/-! ## The schedule -/

/-- What a semaphore is in the protocol. -/
inductive Role where
  | bar | send (k : Peer) | recv (k : Peer) | other
  deriving DecidableEq

def role : SemLoc sig → Role
  | .reg s => if s = barS then .bar else .other
  | .dma q => if h : 5 ≤ q.val ∧ q.val < 12 then .send ⟨q.val - 5, by omega⟩
      else if h : 12 ≤ q.val ∧ q.val < 19 then .recv ⟨q.val - 12, by omega⟩ else .other

theorem role_bar : role (.reg barS) = .bar := by decide
theorem role_send (k : Peer) : role (.dma (sendS k)) = .send k := by revert k; decide
theorem role_recv (k : Peer) : role (.dma (recvS k)) = .recv k := by revert k; decide

/-- One round. A barrier cell has seven duties of one unit: the `k`-th is paid by the device `k + 1` positions before,
    with that device's slab for the cell's owner. The `k`-th send cell has one duty, paid when the copy leaves: the loan
    of the sender's own slab comes back. The `k`-th receive cell has one, paid when the copy lands: the sender's slab,
    holding what it is meant to. -/
def sched : Rounds.Schedule (GSem nD τ sig) Peer 𝕄 where
  duties g r := if r = 0 ∧ g.1.2 = .tc then
      (match role g.2 with | .bar => Finset.univ | .send _ => {0} | .recv _ => {0} | .other => ∅) else ∅
  unitless _ := False
  amount g _ _ := match role g.2 with | .bar => 1 | _ => N
  payload g _ d := match role g.2 with
    | .bar => slabAny (src g.1.1 d) g.1.1 fullShare
    | .send k => slabAny g.1.1 g.1.1 (Transfers.shareTokN fullShare k.val)
    | .recv k => slabOk m ρ g.1.1 (src g.1.1 k) fullShare
    | .other => iprop(emp)
  amount_pos g _ _ _ := by split <;> first | exact Nat.one_pos | exact N_pos

instance sched_payload_storable (g : GSem nD τ sig) (r : ℕ) (d : Peer) :
    BI.Storable (upEmb : UEmb _ 𝕄) ((sched (F := F) m ρ).payload g r d) := by
  show BI.Storable upEmb (match role g.2 with
    | .bar => slabAny (src g.1.1 d) g.1.1 fullShare
    | .send k => slabAny g.1.1 g.1.1 (Transfers.shareTokN fullShare k.val)
    | .recv k => slabOk m ρ g.1.1 (src g.1.1 k) fullShare
    | .other => iprop(emp))
  split <;> infer_instance

section Tables
variable (c : Dev nD) (k : Peer)

theorem duties_bar : (sched (F := F) m ρ).duties (barCell c) 0 = Finset.univ := by
  dsimp only [sched]; rw [if_pos ⟨rfl, rfl⟩, role_bar]
theorem duties_send : (sched (F := F) m ρ).duties (sendCell c k) 0 = {0} := by
  dsimp only [sched]; rw [if_pos ⟨rfl, rfl⟩, role_send]
theorem duties_recv : (sched (F := F) m ρ).duties (recvCell c k) 0 = {0} := by
  dsimp only [sched]; rw [if_pos ⟨rfl, rfl⟩, role_recv]
theorem duties_later (g : GSem nD τ sig) : ∀ r, 1 ≤ r → (sched (F := F) m ρ).duties g r = ∅ :=
  fun r hr => by dsimp only [sched]; rw [if_neg fun h => by omega]

theorem amount_bar (d : Peer) : (sched (F := F) m ρ).amount (barCell c) 0 d = 1 := by dsimp only [sched]; rw [role_bar]
theorem amount_send (d : Peer) : (sched (F := F) m ρ).amount (sendCell c k) 0 d = N := by dsimp only [sched]; rw [role_send]
theorem amount_recv (d : Peer) : (sched (F := F) m ρ).amount (recvCell c k) 0 d = N := by dsimp only [sched]; rw [role_recv]

theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c k) 0 = N := by
  unfold Schedule.expect Schedule.amountOf; rw [duties_send, Finset.sum_singleton, amount_send]
theorem expect_recv : (sched (F := F) m ρ).expect (recvCell c k) 0 = N := by
  unfold Schedule.expect Schedule.amountOf; rw [duties_recv, Finset.sum_singleton, amount_recv]

theorem payload_bar (d : Peer) : (sched (F := F) m ρ).payload (barCell c) 0 d = slabAny (src c d) c fullShare := by
  dsimp only [sched]; rw [role_bar]
theorem payload_send (d : Peer) : (sched (F := F) m ρ).payload (sendCell c k) 0 d = slabAny c c (Transfers.shareTokN fullShare k.val) := by
  dsimp only [sched]; rw [role_send]
theorem payload_recv (d : Peer) : (sched (F := F) m ρ).payload (recvCell c k) 0 d = slabOk m ρ c (src c k) fullShare := by
  dsimp only [sched]; rw [role_recv]

theorem rev_src : ∀ (c : Dev nD) (k : Peer), src c (Fin.revPerm k) = dst c k := by decide

/-- All a barrier cell's round brings: for each peer, its slab for this device. -/
theorem rest_bar : bigSep ((sched (F := F) m ρ).duties (barCell c) 0 \ ∅) (fun d => (sched (F := F) m ρ).payload (barCell c) 0 d)
    = bigSep Finset.univ fun k : Peer => slabAny (dst c k) c fullShare := by
  rw [Finset.sdiff_empty, duties_bar, bigSep_univ_equiv Fin.revPerm]
  exact bigSep_congr fun k _ => by rw [payload_bar, rev_src]
theorem rest_send : bigSep ((sched (F := F) m ρ).duties (sendCell c k) 0 \ ∅) (fun d => (sched (F := F) m ρ).payload (sendCell c k) 0 d)
    = slabAny c c (Transfers.shareTokN fullShare k.val) := by
  rw [Finset.sdiff_empty, duties_send, bigSep_singleton, payload_send]
theorem rest_recv : bigSep ((sched (F := F) m ρ).duties (recvCell c k) 0 \ ∅) (fun d => (sched (F := F) m ρ).payload (recvCell c k) 0 d)
    = slabOk m ρ c (src c k) fullShare := by
  rw [Finset.sdiff_empty, duties_recv, bigSep_singleton, payload_recv]

end Tables

/-! ## Families by index: the peers still to be served and those already served -/

def from7 (n : ℕ) : Finset Peer := Finset.univ.filter fun k => n ≤ k.val
def upto7 (n : ℕ) : Finset Peer := Finset.univ.filter fun k => k.val < n

theorem from7_zero : from7 0 = Finset.univ := by decide
theorem from7_seven : from7 7 = ∅ := by decide
theorem upto7_zero : upto7 0 = ∅ := by decide
theorem upto7_seven : upto7 7 = Finset.univ := by decide
theorem from7_peel : ∀ k : Peer, k ∉ from7 (k.val + 1) ∧ from7 k.val = insert k (from7 (k.val + 1)) := by decide
theorem upto7_peel : ∀ k : Peer, k ∉ upto7 k.val ∧ upto7 (k.val + 1) = insert k (upto7 k.val) := by decide

/-! ## What each device owes; the levels -/

/-- The announcements still to make, from the `n`-th. -/
def oweBar (c : Dev nD) (n : ℕ) : CellTallies nD τ sig Unit := ∑ k ∈ from7 n, tallyAt (barCell (dst c k)) () 1
/-- The copies still to send, from the `n`-th. -/
def oweRecv (c : Dev nD) (n : ℕ) : CellTallies nD τ sig Unit := ∑ k ∈ from7 n, tallyAt (recvCell (dst c k) k) () N
/-- All a device owes at launch. -/
def O₀ (c : Dev nD) : CellTallies nD τ sig Unit := oweRecv c 0 + oweBar c 0

theorem oweBar_peel (c : Dev nD) (k : Peer) : oweBar c k.val = oweBar c (k.val + 1) + tallyAt (barCell (dst c k)) () 1 := by
  unfold oweBar; rw [(from7_peel k).2, Finset.sum_insert (from7_peel k).1, add_comm]
theorem oweRecv_peel (c : Dev nD) (k : Peer) : oweRecv c k.val = oweRecv c (k.val + 1) + tallyAt (recvCell (dst c k) k) () N := by
  unfold oweRecv; rw [(from7_peel k).2, Finset.sum_insert (from7_peel k).1, add_comm]
theorem oweBar_done (c : Dev nD) : oweBar c 7 = 0 := by unfold oweBar; rw [from7_seven, Finset.sum_empty]
theorem oweRecv_done (c : Dev nD) : oweRecv c 7 = 0 := by unfold oweRecv; rw [from7_seven, Finset.sum_empty]

def L (g : GSem nD τ sig) : Finset Unit := if g.1.2 = .tc then {()} else ∅
/-- Barrier cells at 1, receive cells at 2, everything else at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [role_bar]
theorem lv_recv (c : Dev nD) (k : Peer) (u : Unit) : lv (recvCell c k) u = 2 := by dsimp only [lv]; rw [role_recv]

theorem sum_pos {A : Finset Peer} {G : Peer → GSem nD τ sig} {n : ℕ} {g : GSem nD τ sig} {u : Unit}
    (h : 0 < (∑ k ∈ A, tallyAt (G k) () n : CellTallies nD τ sig Unit) g u) : ∃ k, g = G k := by
  rw [Finset.sum_apply, Finsupp.finset_sum_apply] at h
  obtain ⟨k, _, hk⟩ := Finset.exists_ne_zero_of_sum_ne_zero (Nat.pos_iff_ne_zero.mp h)
  rw [tallyAt_apply] at hk
  by_contra hn
  rw [not_exists] at hn
  exact hk (if_neg fun h' => hn k h'.1)

theorem oweRecv_pos {c : Dev nD} {n : ℕ} {g : GSem nD τ sig} {u : Unit} (h : 0 < oweRecv c n g u) : ∃ k, g = recvCell (dst c k) k :=
  sum_pos h
theorem O₀_pos {c : Dev nD} {g : GSem nD τ sig} {u : Unit} (h : 0 < O₀ c g u) :
    (∃ k, g = recvCell (dst c k) k) ∨ ∃ k, g = barCell (dst c k) := by
  unfold O₀ at h
  rw [Pi.add_apply, Finsupp.add_apply] at h
  rcases Nat.eq_zero_or_pos (oweRecv c 0 g u) with h0 | h0
  · exact Or.inr (sum_pos (by omega : 0 < oweBar c 0 g u))
  · exact Or.inl (sum_pos h0)

theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]; dsimp only [lv, role]
        rw [dif_neg (by omega), dif_neg (by omega)])
      (fun g u hg => by
        rcases O₀_pos hg with ⟨k, rfl⟩ | ⟨k, rfl⟩
        · rw [lv_recv]; decide
        · rw [lv_bar]; decide)
  · rw [MayWait_zero]; iintro -; iempintro

/-- At its barrier wait a device owes only receive cells, which are above its barrier cell. -/
theorem mayWait_bar (c : Dev nD) : (levAts L lv : sProp 𝕄) ⊢ MayWait (c : Thread nD τ) (.reg barS) () (oweRecv c 0) :=
  MayOwe.of_cut (L := L) (lev := lv) 1 (fun p hp => by rw [Finset.mem_singleton.mp hp, L_tc]; exact Finset.mem_singleton_self _)
    (fun g u hg => by obtain ⟨k, rfl⟩ := oweRecv_pos hg; exact Finset.mem_singleton_self _)
    (fun p hp => by rw [Finset.mem_singleton.mp hp]; exact le_of_eq (lv_bar c _))
    (fun g u hg => by obtain ⟨k, rfl⟩ := oweRecv_pos hg; rw [lv_recv]; decide)

end Cert.Routed

end
-- ==== Proof.Steps.lean ====
/-
One step of the body per kind of operation, as a step between states: an announcement, the barrier wait, a copy sent,
an arriving copy waited for, a departing copy waited for. Each state is a family over the peers still to be served and
one over those already served, so each kind is proved once, at a symbolic device and a symbolic peer.
-/
module

public import proofs.«01_k».proof.Proof.Protocol

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The body of device `c` runs `p` and ends in `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The cells, indexed, and what everyone knows about them -/

/-- A device's cells: its barrier, its sends, its receives. -/
def csem (j : Fin 15) : SemLoc sig := if h : j.val = 0 then .reg barS else osem ⟨j.val - 1, by omega⟩
abbrev kcell (ck : Dev nD × Fin 15) : GSem nD τ sig := ((ck.1 : Thread nD τ), csem ck.2)
def sendIx (k : Peer) : Fin 15 := ⟨k.val + 1, by omega⟩
def recvIx (k : Peer) : Fin 15 := ⟨k.val + 8, by omega⟩
theorem csem_bar : csem 0 = .reg barS := by decide
theorem csem_send (k : Peer) : csem (sendIx k) = .dma (sendS k) := by revert k; decide
theorem csem_recv (k : Peer) : csem (recvIx k) = .dma (recvS k) := by revert k; decide

/-- Every cell's invariant, under the names `K`, and that every cell has reached its round. -/
def records (K : Dev nD × Fin 15 → ℕ) : sProp 𝕄 :=
  iprop((bigSep Finset.univ fun ck : Dev nD × Fin 15 => cellInv ER (sched m ρ) (K ck) (kcell ck))
    ∗ bigSep Finset.univ fun ck : Dev nD × Fin 15 => reached ER (kcell ck) 0)

instance records_persistent (K : Dev nD × Fin 15 → ℕ) : BI.Persistent (records m ρ K) := by unfold records; infer_instance

variable (K : Dev nD × Fin 15 → ℕ)

theorem records_at (ck : Dev nD × Fin 15) :
    records m ρ K ⊢ iprop(cellInv ER (sched m ρ) (K ck) (kcell ck) ∗ reached ER (kcell ck) 0) := by
  unfold records
  exact BIClass.sep_mono (bigSep_elim (Finset.mem_univ ck)) (bigSep_elim (Finset.mem_univ ck))

theorem records_bar (c : Dev nD) :
    records m ρ K ⊢ iprop(cellInv ER (sched m ρ) (K (c, 0)) (barCell c) ∗ reached ER (barCell c) 0) := by
  have h := records_at m ρ K (c, 0); simp only [kcell, csem_bar] at h; exact h
theorem records_send (c : Dev nD) (k : Peer) :
    records m ρ K ⊢ iprop(cellInv ER (sched m ρ) (K (c, sendIx k)) (sendCell c k) ∗ reached ER (sendCell c k) 0) := by
  have h := records_at m ρ K (c, sendIx k); simp only [kcell, csem_send] at h; exact h
theorem records_recv (c : Dev nD) (k : Peer) :
    records m ρ K ⊢ iprop(cellInv ER (sched m ρ) (K (c, recvIx k)) (recvCell c k) ∗ reached ER (recvCell c k) 0) := by
  have h := records_at m ρ K (c, recvIx k); simp only [kcell, csem_recv] at h; exact h

/-! ## The families -/

theorem fam_from (Φ : Peer → sProp 𝕄) (k : Peer) : bigSep (from7 k.val) Φ = iprop(Φ k ∗ bigSep (from7 (k.val + 1)) Φ) := by
  rw [(from7_peel k).2, bigSep_insert (from7_peel k).1]; rfl
theorem fam_upto (Φ : Peer → sProp 𝕄) (k : Peer) : bigSep (upto7 (k.val + 1)) Φ = iprop(Φ k ∗ bigSep (upto7 k.val) Φ) := by
  rw [(upto7_peel k).2, bigSep_insert (upto7_peel k).1]; rfl

/-- What device `c` owes, whatever it has waited for. -/
def dues (c : Dev nD) (O : CellTallies nD τ sig Unit) : sProp 𝕄 := iprop(∃ W, owes (c : Thread nD τ) O W)

/-- To announce: a peer's barrier duty, and the slab handed with it. -/
def toSignal (c : Dev nD) (k : Peer) : sProp 𝕄 := iprop(dutyTok ER (barCell (dst c k)) 0 k ∗ slabAny c (dst c k) fullShare)
/-- To send: the two duties of a copy, -/
def toSend (c : Dev nD) (k : Peer) : sProp 𝕄 :=
  iprop(dutyTok ER (sendCell c k) 0 0 ∗ dutyTok ER (recvCell (dst c k) k) 0 0)
/-- and with the place it lands in and a loan of the slab sent. -/
def readySend (c : Dev nD) (k : Peer) : sProp 𝕄 :=
  iprop(toSend c k ∗ slabAny (dst c k) c fullShare ∗ slabOk m ρ c c (Transfers.shareTokN fullShare k.val))
/-- A copy sent, to be waited for. -/
def sent (c : Dev nD) (k : Peer) : sProp 𝕄 := cred (tallyAt (sendCell c k) () N)
/-- A copy to arrive, to be waited for; -/
def toRecv (c : Dev nD) (k : Peer) : sProp 𝕄 := iprop(atPos ER (recvCell c k) 0 ∅ 0 ∗ cred (tallyAt (recvCell c k) () N))
/-- arrived. -/
def got (c : Dev nD) (k : Peer) : sProp 𝕄 := iprop(slabOk m ρ c (src c k) fullShare ∗ semVal (recvCell c k) 0)
/-- A copy's departure to be waited for; -/
def toBack (c : Dev nD) (k : Peer) : sProp 𝕄 := iprop(atPos ER (sendCell c k) 0 ∅ 0 ∗ sent c k)
/-- the loan is back. -/
def back (c : Dev nD) (k : Peer) : sProp 𝕄 :=
  iprop(slabAny c c (Transfers.shareTokN fullShare k.val) ∗ semVal (sendCell c k) 0)

section Steps

variable (c n : Dev nD) (k : Peer)

/-- An announcement, to `n`. -/
theorem step_signal (hn : n = dst c k) {α : Type} {Q : α → sProp 𝕄} {p : PUnit → Prog (TpuEff nD τ sig (Elt F) Λ₀ .tc) α} :
    iprop(records m ρ K ∗ dues c (oweRecv c 0 + oweBar c k.val) ∗ bigSep (from7 k.val) (toSignal c))
      ⊢ iprop(((dues c (oweRecv c 0 + oweBar c (k.val + 1)) ∗ bigSep (from7 (k.val + 1)) (toSignal c)) -∗ run c (p ⟨⟩) Q)
          -∗ run c (.op (.semSignal ((n, .tc) : Thread nD τ) barS (1#32).toInt) p) Q) := by
  subst hn
  rw [fam_from]
  unfold dues toSignal
  iintro ⟨#HR, ⟨%W, HO⟩, ⟨Ht, Hs⟩, Hfam⟩ Hk
  ihave HRk := (records_bar m ρ K (dst c k)) $$ HR
  icases HRk with ⟨#HI, #Hr⟩
  iapply (Rounds.wp_signal 𝒱₀ ER (sched m ρ) (c : Thread nD τ) none (dst := (dst c k : Thread nD τ)) (κ := K (dst c k, 0))
      (d := k) (by rw [duties_bar]; exact Finset.mem_univ _) (k' := 1) ((amount_bar m ρ (dst c k) k)) () (oweRecv c 0 + oweBar c (k.val + 1))
      ((congrArg (oweRecv c 0 + ·) (oweBar_peel c k)).trans (add_assoc _ _ _).symm)) $$ [HO Ht Hs]
  · isplitr; · iexact HI
    isplitl [HO]; · iexact HO
    isplitl [Ht]; · iexact Ht
    isplitl [Hs]; · rw [payload_bar, src_dst]; iexact Hs
    iexact Hr
  iintro HO
  iapply Hk
  isplitl [HO]; · iexists W; iexact HO
  iexact Hfam

/-- The barrier wait: every peer has announced itself, and handed its slab for `c`. -/
theorem step_barrier {α : Type} {Q : α → sProp 𝕄} {p : PUnit → Prog (TpuEff nD τ sig (Elt F) Λ₀ .tc) α} :
    iprop(records m ρ K ∗ levAts L lv ∗ dues c (oweRecv c 0) ∗ atPos ER (barCell c) 0 ∅ 0 ∗ cred (tallyAt (barCell c) () 7))
      ⊢ iprop(((dues c (oweRecv c 0) ∗ semVal (barCell c) 0 ∗ bigSep Finset.univ fun k : Peer => slabAny (dst c k) c fullShare)
            -∗ run c (p ⟨⟩) Q)
          -∗ run c (.op (.semWait barS (7#32).toInt) p) Q) := by
  unfold dues
  iintro ⟨#HR, #Hlev, ⟨%W, HO⟩, Hat, Hc⟩ Hk
  ihave HRk := (records_bar m ρ K c) $$ HR
  icases HRk with ⟨#HI, #Hr⟩
  iapply (Rounds.wp_wait_rest_token 𝒱₀ ER (sched m ρ) (c : Thread nD τ) none (κ := K (c, 0))
      (wpE_semWait_eq 𝒱₀ (c : Thread nD τ) none Set.univ (k := 7)) (Set.mem_univ _) () (O := oweRecv c 0) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (sched m ρ) (Set.mem_univ (K (c, 0))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-- A slab copied onto its own place in another device's buffer holds there what it held. -/
theorem landed_on (p : Dev nD) (fd fs : S8x272x256.Idx → Elt F .bf16) (i : S8x272x256.Idx) (hi : i ∈ S p) :
    (slabM p).view.write (Elt F) fd ((slabM p).view.read (Elt F) fs) Finset.univ i = fs i := by
  rw [View.write_read_eq_piecewise]
  exact Finset.piecewise_eq_of_mem _ _ _ (by rw [View.setOn_univ, slab_set]; exact hi)

/-- A copy of `c`'s slab sent to `n`. -/
theorem step_send (hn : n = dst c k) (sS sR : DmaSem sig) (hS : sS = sendS k) (hR : sR = recvS k)
    (M : Memref sig .tc .vmem S272x256 .bf16) (hM : M = slabM c)
    {hsc : M.view.ref.isScScratch = false} {hsrc : M.view.WordExact} {hdst : M.view.WordExact}
    {hsem : DmaTarget.Typed .vmem (.dma sR) (.remote (Dev.tc n : Thread nD τ) (M : Memref sig (Dev.tc n : Thread nD τ).2.kind .vmem S272x256 .bf16) (.dma sS) hsc)}
    {α : Type} {Q : α → sProp 𝕄} {p : PUnit → Prog (TpuEff nD τ sig (Elt F) Λ₀ .tc) α} :
    iprop(records m ρ K ∗ dues c (oweRecv c k.val) ∗ bigSep (from7 k.val) (readySend m ρ c) ∗ bigSep (upto7 k.val) (sent c))
      ⊢ iprop(((dues c (oweRecv c (k.val + 1)) ∗ bigSep (from7 (k.val + 1)) (readySend m ρ c) ∗ bigSep (upto7 (k.val + 1)) (sent c))
            -∗ run c (p ⟨⟩) Q)
          -∗ run c (.op (.enqueueDma M (.remote (Dev.tc n : Thread nD τ) M (.dma sS) hsc) (.dma sR) hsrc hdst hsem) p) Q) := by
  subst hn hS hR hM
  rw [fam_from, fam_upto]
  unfold dues readySend toSend slabOk slabAny slabPts sent
  iintro ⟨#HR, ⟨%W, HO⟩, ⟨⟨⟨Hts, Htr⟩, ⟨%fd, Hd⟩, ⟨%fs, %hfs, Hs⟩⟩, Hfam⟩, Hsent⟩ Hk
  ihave HRk := (records_send m ρ K c k) $$ HR
  icases HRk with ⟨#HIs, #Hrs⟩
  ihave HRk := (records_recv m ρ K (dst c k) k) $$ HR
  icases HRk with ⟨#HIr, #Hrr⟩
  iapply (Rounds.wp_send_pointsTo 𝒱₀ ER (sched m ρ) (c : Thread nD τ) none (κ₁ := K (c, sendIx k)) (κ₂ := K (dst c k, recvIx k))
    (src := slabM c) (dst := slabM c) (c' := (dst c k : Thread nD τ)) (q := Transfers.shareTokN fullShare k.val)
    (r₁ := 0) (r₂ := 0) (d₁ := 0) (d₂ := 0) (fs := fs) (fd := fd)
    (by rw [duties_send]; exact Finset.mem_singleton_self _) (by rw [duties_recv]; exact Finset.mem_singleton_self _)
    () () N rfl (amount_send m ρ c k 0) (amount_recv m ρ (dst c k) k 0) (oweRecv c (k.val + 1)) (oweRecv_peel c k) (W := W)
    (by rw [payload_send, slab_set]; unfold slabAny slabPts; iintro H; iexists fs; iexact H)
    (by
      rw [payload_recv, src_dst, slab_set]; unfold slabOk slabPts
      iintro H
      iexists ((slabM c).view.write (Elt F) fd ((slabM c).view.read (Elt F) fs) Finset.univ)
      isplitr
      · ipureintro
        intro i hi h1
        exact (landed_on c fd fs i hi).trans (hfs i hi h1)
      · iexact H)) $$ [HO Hts Htr Hd Hs]
  · isplitr; · iexact HIs
    isplitr; · iexact HIr
    isplitl [Hs]; · rw [slab_set]; iexact Hs
    isplitl [Hd]; · rw [slab_set]; iexact Hd
    isplitl [HO]; · iexact HO
    isplitl [Hts]; · iexact Hts
    isplitr; · iexact Hrs
    isplitl [Htr]; · iexact Htr
    iexact Hrr
  iintro ⟨Hc, HO⟩
  iapply Hk
  isplitl [HO]; · iexists W; iexact HO
  isplitl [Hfam]; · iexact Hfam
  isplitl [Hc]; · iexact Hc
  iexact Hsent

/-- The wait for an arriving copy. -/
theorem step_recv (sR : DmaSem sig) (hR : sR = recvS k) (M M' : Memref sig .tc .vmem S272x256 .bf16) (hM : M = slabM (src c k))
    {hsrc : M'.view.WordExact} {hdst : M.view.WordExact}
    {α : Type} {Q : α → sProp 𝕄} {p : PUnit → Prog (TpuEff nD τ sig (Elt F) Λ₀ .tc) α} :
    iprop(records m ρ K ∗ dues c 0 ∗ bigSep (from7 k.val) (toRecv c) ∗ bigSep (upto7 k.val) (got m ρ c))
      ⊢ iprop(((dues c 0 ∗ bigSep (from7 (k.val + 1)) (toRecv c) ∗ bigSep (upto7 (k.val + 1)) (got m ρ c)) -∗ run c (p ⟨⟩) Q)
          -∗ run c (.op (.waitDma2 sR M' M hsrc hdst) p) Q) := by
  subst hR hM
  rw [fam_from, fam_upto]
  unfold dues toRecv got
  iintro ⟨#HR, ⟨%W, HO⟩, ⟨⟨Hat, Hc⟩, Hfam⟩, Hgot⟩ Hk
  ihave HRk := (records_recv m ρ K c k) $$ HR
  icases HRk with ⟨#HI, #Hr⟩
  iapply (Rounds.wp_wait_rest_token 𝒱₀ ER (sched m ρ) (c : Thread nD τ) none (κ := K (c, recvIx k))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c k)) $$ Hpay
  imod (Rounds.cell_close ER (sched m ρ) (Set.mem_univ (K (c, recvIx k))) (fun h => h) (R := 0 + 1) (duties_later m ρ (recvCell c k))) $$ [Hat] with Hz
  · isplitr; · iexact HI
    iexact Hat
  iapply Hk
  isplitl [HO]; · iexists _; iexact HO
  isplitl [Hfam]; · iexact Hfam
  isplitl [Hp Hz]; · isplitl [Hp] <;> iassumption
  iexact Hgot

/-- The wait for a departing copy. -/
theorem step_back (sS : DmaSem sig) (hS : sS = sendS k) (M M' : Memref sig .tc .vmem S272x256 .bf16) (hM : M = slabM c)
    {hsrc : M'.view.WordExact} {hdst : M.view.WordExact}
    {α : Type} {Q : α → sProp 𝕄} {p : PUnit → Prog (TpuEff nD τ sig (Elt F) Λ₀ .tc) α} :
    iprop(records m ρ K ∗ dues c 0 ∗ bigSep (from7 k.val) (toBack c) ∗ bigSep (upto7 k.val) (back c))
      ⊢ iprop(((dues c 0 ∗ bigSep (from7 (k.val + 1)) (toBack c) ∗ bigSep (upto7 (k.val + 1)) (back c)) -∗ run c (p ⟨⟩) Q)
          -∗ run c (.op (.waitDma2 sS M' M hsrc hdst) p) Q) := by
  subst hS hM
  rw [fam_from, fam_upto]
  unfold dues toBack sent back
  iintro ⟨#HR, ⟨%W, HO⟩, ⟨⟨Hat, Hc⟩, Hfam⟩, Hgot⟩ Hk
  ihave HRk := (records_send m ρ K c k) $$ HR
  icases HRk with ⟨#HI, #Hr⟩
  iapply (Rounds.wp_wait_rest_token 𝒱₀ ER (sched m ρ) (c : Thread nD τ) none (κ := K (c, sendIx k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c k)) $$ Hpay
  imod (Rounds.cell_close ER (sched m ρ) (Set.mem_univ (K (c, sendIx k))) (fun h => h) (R := 0 + 1) (duties_later m ρ (sendCell c k))) $$ [Hat] with Hz
  · isplitr; · iexact HI
    iexact Hat
  iapply Hk
  isplitl [HO]; · iexists _; iexact HO
  isplitl [Hfam]; · iexact Hfam
  isplitl [Hp Hz]; · isplitl [Hp] <;> iassumption
  iexact Hgot

end Steps

end Cert.Routed

end
-- ==== Proof.Slabs.lean ====
/-
The gathering buffer by slabs: filling one's own, splitting and joining the shares, and what a load reads when the
slabs it touches hold what they are meant to.
-/
module

public import proofs.«01_k».proof.Proof.Steps
public import Idealize.ShloMosaic.Lib.Pipeline.ValueKit.Geometry

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)

variable {F : FTy → Type} [FloatOps F]

local notation "𝕄" => MT nD τ sig Unit (Elt F) ℕ UU ℕ

variable (m : (ℓ : Loc nD τ sig) → Buf (Elt F) ℓ) (ρ : Dev nD → PrngReg)

/-- What is kept of a slab when seven loans of it are out, and the `k`-th loan. -/
abbrev keep : PosShare TreeShare := Transfers.shareDrop fullShare 7
abbrev loan (k : Peer) : PosShare TreeShare := Transfers.shareTokN fullShare k.val

/-- A family assertion by assertion. -/
theorem fam_mono {I : Type} {s : Finset I} {Φ Ψ : I → sProp 𝕄} (h : ∀ i ∈ s, Φ i ⊢ Ψ i) : bigSep s Φ ⊢ bigSep s Ψ := bigSep_mono h

/-! ## All devices: one and the peers behind it, or the peers ahead -/

theorem univ_src (c : Dev nD) : (Finset.univ : Finset (Dev nD)).erase c = Finset.univ.map ⟨src c, fun k k' h => src_inj c k k' h⟩ := by
  ext p
  rw [Finset.mem_erase, Finset.mem_map]
  constructor
  · rintro ⟨hp, -⟩
    rcases eq_or_src c p with h | ⟨k, h⟩
    · exact absurd h hp
    · exact ⟨k, Finset.mem_univ _, h.symm⟩
  · rintro ⟨k, -, rfl⟩
    exact ⟨src_ne c k, Finset.mem_univ _⟩

theorem fam_src (c : Dev nD) (Φ : Dev nD → sProp 𝕄) : bigSep Finset.univ Φ = iprop(Φ c ∗ bigSep Finset.univ fun k : Peer => Φ (src c k)) := by
  rw [bigSep_erase (Finset.mem_univ c), univ_src, bigSep_map]; rfl
theorem fam_dst (c : Dev nD) (Φ : Dev nD → sProp 𝕄) : bigSep Finset.univ Φ = iprop(Φ c ∗ bigSep Finset.univ fun k : Peer => Φ (dst c k)) := by
  rw [fam_src c, bigSep_univ_equiv Fin.revPerm]
  simp only [rev_src]

/-- The whole buffer of device `c` is its slabs. -/
theorem buf_slabs (c : Dev nD) (q : PosShare TreeShare) (f : S8x272x256.Idx → Elt F .bf16) :
    (bLoc c ↦{q} f : sProp 𝕄) = bigSep Finset.univ fun p : Dev nD => slabPts c p q f := by
  unfold slabPts
  rw [← pointsTo_biUnion (ℓ := bLoc c) (Finset.univ : Finset (Dev nD)) S (fun p _ p' _ h => S_disjoint h)]
  show _ = (bLoc c ↦[(Finset.univ : Finset (Dev nD)).biUnion S]{q} f : sProp 𝕄)
  rw [S_cover]

/-- Slabs at contents of their own make the whole buffer at contents that agree with each on its slab. -/
theorem slabs_join (c : Dev nD) (q : PosShare TreeShare) (fs : Dev nD → S8x272x256.Idx → Elt F .bf16) :
    (bigSep Finset.univ fun p : Dev nD => slabPts c p q (fs p) : sProp 𝕄)
      ⊢ iprop(∃ g : S8x272x256.Idx → Elt F .bf16, ⌜∀ p, ∀ i ∈ S p, g i = fs p i⌝ ∗ (bLoc c ↦{q} g)) := by
  unfold slabPts
  refine (pointsTo_biUnion_join (ℓ := bLoc c) (Finset.univ : Finset (Dev nD)) S fs (fs c) (fun p _ p' _ h => S_disjoint h)).trans ?_
  iintro ⟨%g, %hg, H⟩
  iexists g
  isplitr
  · ipureintro; exact fun p i hi => hg p (Finset.mem_univ _) i hi
  · rw [← S_cover]; iexact H

/-! ## Loans of a slab -/

/-- A slab that is what it is meant to be, as the part kept and seven loans, each what it is meant to be. -/
theorem lend (c p : Dev nD) :
    slabOk m ρ c p fullShare ⊢ iprop(slabOk m ρ c p keep ∗ bigSep Finset.univ fun k : Peer => slabOk m ρ c p (loan k)) := by
  unfold slabOk slabPts
  iintro ⟨%f, %hf, H⟩
  ihave H := (Transfers.pointsTo_toks_split fullShare 7) $$ H
  icases H with ⟨Hk, Hl⟩
  isplitl [Hk]
  · iexists f; isplitr
    · ipureintro; exact hf
    · iexact Hk
  iapply (fam_mono (s := Finset.univ) (Φ := fun k : Peer => (bLoc c ↦[S p]{Transfers.shareTok fullShare 7 k} f : sProp 𝕄)) fun k _ =>
    (show (bLoc c ↦[S p]{Transfers.shareTok fullShare 7 k} f : sProp 𝕄) ⊢ iprop(∃ f, ⌜Good m ρ p f⌝ ∗ bLoc c ↦[S p]{loan k} f) from by
      iintro H; iexists f; isplitr
      · ipureintro; exact hf
      · iexact H))
  iexact Hl

/-- A loan of a slab has the contents of the part kept. -/
theorem loan_agrees (c p : Dev nD) (q q' : PosShare TreeShare) (f : S8x272x256.Idx → Elt F .bf16) :
    iprop(slabPts c p q f ∗ slabAny c p q') ⊢ (iprop(slabPts c p q f ∗ slabPts c p q' f) : sProp 𝕄) := by
  unfold slabAny slabPts
  iintro ⟨Hf, ⟨%g, Hg⟩⟩
  iapply (pure_elim _ (pointsTo_agree (ℓ := bLoc c) (I := S p) (J := S p) (f := f) (g := g) (q₁ := q) (q₂ := q')) fun hv => by
    rw [pointsTo_congr (g := f) fun i hi => ((hv i (by simpa using hi)).1).symm])
  isplitl [Hf] <;> iassumption

/-- The loans of a slab, any number of them, have the contents of the part kept. -/
theorem loans_agree (c p : Dev nD) (f : S8x272x256.Idx → Elt F .bf16) (T : Finset Peer) :
    iprop(slabPts c p keep f ∗ bigSep T fun k => slabAny c p (loan k))
      ⊢ (iprop(slabPts c p keep f ∗ bigSep T fun k => slabPts c p (loan k) f) : sProp 𝕄) := by
  induction T using Finset.induction_on with
  | empty => rw [bigSep_empty, bigSep_empty]
  | insert k T hk ih =>
    rw [bigSep_insert hk, bigSep_insert hk]
    refine (show iprop(slabPts c p keep f ∗ (slabAny c p (loan k) ∗ bigSep T fun k => slabAny c p (loan k)))
      ⊢ iprop(slabPts c p keep f ∗ (slabPts c p (loan k) f ∗ bigSep T fun k => slabPts c p (loan k) f)) from ?_)
    iintro ⟨Hf, Hk, HT⟩
    ihave H := (loan_agrees c p keep (loan k) f) $$ [Hf Hk]
    · isplitl [Hf] <;> iassumption
    icases H with ⟨Hf, Hk⟩
    ihave H := ih $$ [Hf HT]
    · isplitl [Hf] <;> iassumption
    icases H with ⟨Hf, HT⟩
    isplitl [Hf]; · iexact Hf
    isplitl [Hk] <;> iassumption

/-- The seven loans come back: the slab whole again, what it is meant to be. -/
theorem unlend (c p : Dev nD) :
    iprop(slabOk m ρ c p keep ∗ bigSep Finset.univ fun k : Peer => slabAny c p (loan k)) ⊢ slabOk m ρ c p fullShare := by
  unfold slabOk
  iintro ⟨⟨%f, %hf, H⟩, Hl⟩
  iexists f
  isplitr
  · ipureintro; exact hf
  ihave H := (loans_agree c p f Finset.univ) $$ [H Hl]
  · isplitl [H] <;> iassumption
  unfold slabPts
  iapply (Transfers.pointsTo_toks_join fullShare 7)
  iexact H

theorem slabAny_of_ok (c p : Dev nD) (q : PosShare TreeShare) : slabOk m ρ c p q ⊢ slabAny c p q := by
  unfold slabOk slabAny
  iintro ⟨%f, -, H⟩; iexists f; iexact H

/-! ## Filling one's own slab -/

theorem weights_sub (off : Fin 3 → ℕ) (p : Dev nD) (h : off = ![p.val, 0, 0]) (hin) :
    (Rect.unit (s := S8x272x256) off S1x256x256.size hin).set ⊆ S p := fun i hi => by
  subst h; have := (Rect.mem_set_unit.mp hi) 0; simp at this; exact mem_S.mpr (by omega)
theorem count_sub (off : Fin 3 → ℕ) (p : Dev nD) (h : off = ![p.val, 256, 0]) (hin) :
    (Rect.unit (s := S8x272x256) off S1x1x256.size hin).set ⊆ S p := fun i hi => by
  subst h; have := (Rect.mem_set_unit.mp hi) 0; simp at this; exact mem_S.mpr (by omega)
theorem counts_sub (off : Fin 3 → ℕ) (p : Dev nD) (h : off = ![p.val, 256, 0]) (hin) :
    (Rect.unit (s := S8x272x256) off S1x2x256.size hin).set ⊆ S p := fun i hi => by
  subst h; have := (Rect.mem_set_unit.mp hi) 0; simp at this; exact mem_S.mpr (by omega)

/-- A store through a unit-stride rectangle, read at a place inside it: what was stored there; -/
theorem stored_at {off size : Fin 3 → ℕ} (hin) (f : S8x272x256.Idx → Elt F .bf16)
    (w : (Rect.unit (s := S8x272x256) off size hin).shape.Idx → Elt F .bf16) (i : S8x272x256.Idx)
    (j : (Rect.unit (s := S8x272x256) off size hin).shape.Idx) (h : ∀ a, (i a).val = off a + (j a).val) :
    (bM.access (Rect.unit (s := S8x272x256) off size hin)).write (Elt F) f w Finset.univ i = w j := by
  have e : i = (bM.access (Rect.unit (s := S8x272x256) off size hin)).emb j :=
    funext fun a => Fin.ext ((h a).trans (ValueKit.view_emb_slice_whole_unit_val cc0_scratch0 off size hin j a).symm)
  rw [e, View.write_emb_of_mem _ _ (Finset.mem_univ _)]; rfl
/-- and outside it: what was there. -/
theorem stored_off {off size : Fin 3 → ℕ} (hin) (f : S8x272x256.Idx → Elt F .bf16)
    (w : (Rect.unit (s := S8x272x256) off size hin).shape.Idx → Elt F .bf16) (i : S8x272x256.Idx) (a : Fin 3) (h : (i a).val < off a) :
    (bM.access (Rect.unit (s := S8x272x256) off size hin)).write (Elt F) f w Finset.univ i = f i := by
  apply View.write_of_not_mem
  rw [View.setOn_univ]
  intro hm
  have := ((Rect.mem_set_unit.mp ((ValueKit.mem_set_slice_whole_iff cc0_scratch0 _ i Iff.rfl).mp hm)) a).1
  omega

/-- After the two stores the slab holds what it is meant to. -/
theorem fill_good (c : Dev nD) (f : S8x272x256.Idx → Elt F .bf16) (off off' : Fin 3 → ℕ) (h : off = ![c.val, 0, 0])
    (h' : off' = ![c.val, 256, 0]) (hin) (hin') (old : S1x2x256.Idx → Elt F .bf16) :
    Good m ρ c ((bM.access (Rect.unit (s := S8x272x256) off' S1x2x256.size hin')).write (Elt F)
      ((bM.access (Rect.unit (s := S8x272x256) off S1x256x256.size hin)).write (Elt F) f (k0_pay4 (wstg m ρ c)) Finset.univ)
      (updateSlice old (k0_pay5 (istg m ρ c)) ![0, 0, 0] slices_S1x2x256_S1x1x256_0_0_0) Finset.univ) := by
  subst h h'
  intro i hi h1
  rw [mem_S] at hi
  have h2 := (i 2).isLt
  have hc : (i 0 : Fin 8) = c := Fin.ext hi
  by_cases hw : (i 1).val < 256
  · rw [stored_off hin' _ _ i 1 (by simpa using hw)]
    rw [stored_at hin _ _ i (ix3 (0 : Fin 1) (⟨(i 1).val, hw⟩ : Fin 256) (i 2 : Fin 256)) (fun a => by fin_cases a <;> simp [hi, ix3])]
    rw [want, dif_pos hw, hc]
  · rw [stored_at hin' _ _ i (ix3 (0 : Fin 1) (0 : Fin 2) (i 2 : Fin 256)) (fun a => by fin_cases a <;> simp [hi, ix3]; omega)]
    rw [want, dif_neg hw, hc, updateSlice, dif_pos (fun a => by fin_cases a <;> simp [ix3]; exact h2)]
    congr 1
    funext b
    fin_cases b <;> exact Fin.ext (by simp [ix3])

/-- The store of the weights and the store of the counts into one's own slab, each after its loads. -/
theorem step_fill (c : Dev nD) (off1 off2 off3 : Fin 3 → ℕ) (h1 : off1 = ![c.val, 0, 0]) (h2 : off2 = ![c.val, 256, 0])
    (h3 : off3 = ![c.val, 256, 0]) (hin1) (hin2) (hin3) {hl1 hl2 hl3 hs1 hs3 hm1 hm3}
    {α : Type} {Q : α → sProp 𝕄} {p : Prog (TpuEff nD τ sig (Elt F) Λ₀ .tc) α} :
    slabAny c c fullShare ⊢ iprop((slabOk m ρ c c fullShare -∗ run c p Q)
      -∗ run c (.op (.load bM (Rect.unit (s := S8x272x256) off1 S1x256x256.size hin1).toLoadRect hl1) fun _ =>
          .op (.store bM (Rect.unit (s := S8x272x256) off1 S1x256x256.size hin1) (k0_pay4 (wstg m ρ c)) Finset.univ hs1 hm1) fun _ =>
          .op (.load bM (Rect.unit (s := S8x272x256) off2 S1x1x256.size hin2).toLoadRect hl2) fun _ =>
          .op (.load bM (Rect.unit (s := S8x272x256) off3 S1x2x256.size hin3).toLoadRect hl3) fun old =>
          .op (.store bM (Rect.unit (s := S8x272x256) off3 S1x2x256.size hin3)
            (updateSlice old (k0_pay5 (istg m ρ c)) ![0, 0, 0] slices_S1x2x256_S1x1x256_0_0_0) Finset.univ hs3 hm3) fun _ => p) Q) := by
  have on_set {r : Rect S8x272x256} (h : r.set ⊆ S c) : bM.view.setOn r.toLoadRect.set ⊆ S c := fun i hi => by
    rw [View.setOn, Finset.mem_map] at hi
    obtain ⟨x, hx, rfl⟩ := hi; exact h hx
  have on_acc {r : Rect S8x272x256} (h : r.set ⊆ S c) : (bM.access r).setOn Finset.univ ⊆ S c := fun i hi =>
    h ((ValueKit.mem_set_slice_whole_iff cc0_scratch0 _ i Iff.rfl).mp hi)
  unfold slabAny slabOk slabPts
  iintro ⟨%f, H⟩ Hk
  iapply (wp_load 𝒱₀ (c : Thread nD τ) none Set.univ (m := bM) (S := S c) (q := fullShare) (on_set (weights_sub off1 c h1 hin1))) $$ H; iintro H
  iapply (wp_store 𝒱₀ (c : Thread nD τ) none Set.univ (m := bM) (r := Rect.unit (s := S8x272x256) off1 S1x256x256.size hin1) (S := S c) (on_acc (weights_sub off1 c h1 hin1))) $$ H; iintro H
  iapply (wp_load 𝒱₀ (c : Thread nD τ) none Set.univ (m := bM) (S := S c) (q := fullShare) (on_set (count_sub off2 c h2 hin2))) $$ H; iintro H
  iapply (wp_load 𝒱₀ (c : Thread nD τ) none Set.univ (m := bM) (S := S c) (q := fullShare) (on_set (counts_sub off3 c h3 hin3))) $$ H; iintro H
  iapply (wp_store 𝒱₀ (c : Thread nD τ) none Set.univ (m := bM) (r := Rect.unit (s := S8x272x256) off3 S1x2x256.size hin3) (S := S c) (on_acc (counts_sub off3 c h3 hin3))) $$ H; iintro H
  iapply Hk
  iexists _
  isplitr
  rotate_left
  · iexact H
  · ipureintro
    exact fill_good m ρ c f off1 off3 h1 h3 hin1 hin3 _

/-! ## Loads -/

/-- What a load reads of contents that are what they are meant to be on the slabs it touches. -/
theorem read_good {r : LoadRect S8x272x256} {f : S8x272x256.Idx → Elt F .bf16}
    (h : ∀ i ∈ r.set, (i 1).val ≤ 256 ∧ ∃ p, i ∈ S p ∧ Good m ρ p f) :
    bM.view.readAt (Elt F) r f = bM.view.readAt (Elt F) r (want m ρ) :=
  View.readAt_congr (v := bM.view) fun i hi => by
    have hi' : i ∈ r.set := by
      rw [View.setOn, Finset.mem_map] at hi
      obtain ⟨x, hx, rfl⟩ := hi; exact hx
    obtain ⟨h1, p, hp, hg⟩ := h i hi'
    exact hg i hp h1

/-- A load inside one slab that has arrived reads what that slab is meant to hold. -/
theorem step_load (c : Dev nD) (n : ℕ) (k : Peer) (hk : k ∈ upto7 n) (r : Rect S8x272x256)
    (hr : ∀ i ∈ r.set, (i 0).val = (src c k).val ∧ (i 1).val ≤ 256) {hl : bM.view.LoadsAt r.toLoadRect}
    {α : Type} {Q : α → sProp 𝕄} {p : (r.shape.Idx → Elt F .bf16) → Prog (TpuEff nD τ sig (Elt F) Λ₀ .tc) α} :
    bigSep (upto7 n) (got m ρ c)
      ⊢ iprop((bigSep (upto7 n) (got m ρ c) -∗ run c (p (bM.view.readAt (Elt F) r.toLoadRect (want m ρ))) Q)
          -∗ run c (.op (.load bM r.toLoadRect hl) p) Q) := by
  rw [bigSep_erase hk]
  show iprop(got m ρ c k ∗ bigSep _ (got m ρ c)) ⊢ iprop(((got m ρ c k ∗ bigSep _ (got m ρ c)) -∗ _) -∗ _)
  unfold got slabOk slabPts
  iintro ⟨⟨⟨%f, %hf, H⟩, Hz⟩, Hr⟩ Hk
  iapply (wp_load 𝒱₀ (c : Thread nD τ) none Set.univ (m := bM) (r := r.toLoadRect) (S := S (src c k)) (f := f) (q := fullShare) (by
    intro i hi
    rw [View.setOn, Finset.mem_map] at hi
    obtain ⟨x, hx, rfl⟩ := hi
    exact mem_S.mpr (hr x hx).1)) $$ [H]
  · iexact H
  rw [read_good m ρ fun i hi => ⟨(hr i hi).2, src c k, mem_S.mpr (hr i hi).1, hf⟩]
  iintro H
  iapply Hk
  isplitl [H Hz]
  · isplitl [H]
    · iexists f; isplitr
      · ipureintro; exact hf
      · iexact H
    · iexact Hz
  · iexact Hr

/-- A load across the slabs, of rows that mean anything, from a share of each. -/
theorem step_load_all (c : Dev nD) (r : Rect S8x272x256) (hr : ∀ i ∈ r.set, (i 1).val ≤ 256) {hl : bM.view.LoadsAt r.toLoadRect}
    {α : Type} {Q : α → sProp 𝕄} {p : (r.shape.Idx → Elt F .bf16) → Prog (TpuEff nD τ sig (Elt F) Λ₀ .tc) α} :
    (bigSep Finset.univ fun s : Dev nD => slabOk m ρ c s keep)
      ⊢ iprop(((bigSep Finset.univ fun s : Dev nD => slabOk m ρ c s keep) -∗ run c (p (bM.view.readAt (Elt F) r.toLoadRect (want m ρ))) Q)
          -∗ run c (.op (.load bM r.toLoadRect hl) p) Q) := by
  have hopen : (bigSep Finset.univ fun s : Dev nD => slabOk m ρ c s keep)
      ⊢ iprop(∃ g : S8x272x256.Idx → Elt F .bf16, ⌜∀ s, Good m ρ s g⌝ ∗ (bLoc c ↦{keep} g)) := by
    refine (fam_mono (s := Finset.univ) (Ψ := fun s : Dev nD =>
      iprop(∃ f : {f : S8x272x256.Idx → Elt F .bf16 // Good m ρ s f}, slabPts c s keep f.1)) fun s _ => ?_).trans ?_
    · unfold slabOk
      iintro ⟨%f, %hf, H⟩; iexists ⟨f, hf⟩; iexact H
    haveI : ∀ s : Dev nD, Nonempty {f : S8x272x256.Idx → Elt F .bf16 // Good m ρ s f} := fun s => ⟨⟨want m ρ, fun i _ _ => rfl⟩⟩
    refine (bigSep_exists_pi Finset.univ _).trans ?_
    iintro ⟨%fs, H⟩
    ihave H := (slabs_join c keep fun s => (fs s).1) $$ H
    icases H with ⟨%g, %hg, H⟩
    iexists g
    isplitr
    · ipureintro; exact fun s i hi h1 => (hg s i hi).trans ((fs s).2 i hi h1)
    · iexact H
  refine hopen.trans ?_
  iintro ⟨%g, %hg, H⟩ Hk
  iapply (wp_load 𝒱₀ (c : Thread nD τ) none Set.univ (m := bM) (r := r.toLoadRect) (S := Finset.univ) (f := g) (q := keep)
    (Finset.subset_univ _)) $$ [H]
  · iexact H
  rw [read_good m ρ fun i hi => ⟨hr i hi, (i 0 : Fin 8), mem_S.mpr rfl, hg _⟩]
  iintro H
  iapply Hk
  ihave H := (Entails.of_eq (buf_slabs c keep g)) $$ H
  iapply (fam_mono (s := Finset.univ) (Φ := fun s : Dev nD => slabPts c s keep g) fun s _ =>
    (show slabPts c s keep g ⊢ slabOk m ρ c s keep from by
      unfold slabOk
      iintro H; iexists g; isplitr
      · ipureintro; exact hg s
      · iexact H))
  iexact H

/-- The same when `c`'s own slab is lent out and the others are at hand whole. -/
theorem step_counts (c : Dev nD) (r : Rect S8x272x256) (hr : ∀ i ∈ r.set, (i 1).val ≤ 256) {hl : bM.view.LoadsAt r.toLoadRect}
    {α : Type} {Q : α → sProp 𝕄} {p : (r.shape.Idx → Elt F .bf16) → Prog (TpuEff nD τ sig (Elt F) Λ₀ .tc) α} :
    iprop(slabOk m ρ c c keep ∗ bigSep Finset.univ fun k : Peer => slabOk m ρ c (src c k) fullShare)
      ⊢ iprop(((slabOk m ρ c c keep ∗ bigSep Finset.univ fun k : Peer => slabOk m ρ c (src c k) fullShare)
            -∗ run c (p (bM.view.readAt (Elt F) r.toLoadRect (want m ρ))) Q)
          -∗ run c (.op (.load bM r.toLoadRect hl) p) Q) := by
  iintro ⟨Hc, Hs⟩ Hk
  ihave Hs := (fam_mono (s := Finset.univ) fun k _ => lend m ρ c (src c k)) $$ Hs
  ihave Hs := (Entails.of_eq (bigSep_sep' (s := Finset.univ) (Φ := fun k : Peer => slabOk m ρ c (src c k) keep)
    (Ψ := fun k : Peer => bigSep Finset.univ fun j : Peer => slabOk m ρ c (src c k) (loan j)))) $$ Hs
  icases Hs with ⟨Hs, Hl⟩
  iapply (step_load_all m ρ c r hr) $$ [Hc Hs]
  · rw [fam_src c]; isplitl [Hc] <;> iassumption
  rw [fam_src c]
  iintro ⟨Hc, Hs⟩
  iapply Hk
  isplitl [Hc]; · iexact Hc
  ihave H := (Entails.of_eq (bigSep_sep' (s := Finset.univ) (Φ := fun k : Peer => slabOk m ρ c (src c k) keep)
    (Ψ := fun k : Peer => bigSep Finset.univ fun j : Peer => slabOk m ρ c (src c k) (loan j))).symm) $$ [Hs Hl]
  · isplitl [Hs] <;> iassumption
  iapply (fam_mono (s := Finset.univ) (Φ := fun k : Peer => iprop(slabOk m ρ c (src c k) keep ∗ bigSep Finset.univ fun j : Peer => slabOk m ρ c (src c k) (loan j))) fun k _ =>
    (show _ ⊢ slabOk m ρ c (src c k) fullShare from
      (BIClass.sep_mono (Entails.of_eq rfl) (fam_mono (s := Finset.univ) fun j _ => slabAny_of_ok m ρ c (src c k) (loan j))).trans (unlend m ρ c (src c k))))
  iexact H

end Cert.Routed

end
-- ==== Proof.Out.lean ====
/-
What device `c` computes: its sum over the eight slabs, one device behind after another, then masked by whether each
token's place in its expert's queue is within the capacity.
-/
module

public import proofs.«01_k».proof.Proof.Protocol

@[expose] public section

noncomputable section

namespace Cert.Routed

open Cert.KernelIdeal Cert.KernelIdeal.Gen

open Idealize.ShloMosaic
open Idealize.ShloMosaic.TcCoe
open Idealize.SL Idealize.SL.RA

variable {F : FTy → Type} [FloatOps F]

variable (m : (ℓ : Loc nD τ sig) → Buf (Elt F) ℓ) (ρ : Dev nD → PrngReg) (c : Dev nD)

/-- The device's own position as the body computes it, and the position `r` before it. -/
abbrev me : BitVec 32 := Scalar.remsi (Scalar.divsi (Dev.word c) 1#32) 8#32
abbrev behind (r : BitVec 32) : BitVec 32 := Scalar.remsi (Scalar.addi (Scalar.subi (me c) r) 8#32) 8#32

/-- The two expert matrices read from the slab of the device `k + 1` positions before, and all devices' counts. -/
abbrev wLo (k : Peer) : S1x128x256.Idx → Elt F .bf16 :=
  bM.view.readAt (Elt F) (Rect.unit (s := S8x272x256) (k0_off6 c (BitVec.ofNat 32 (1 + k.val))) S1x128x256.size (k0_off6_inb c k)).toLoadRect (want m ρ)
abbrev wHi (k : Peer) : S1x128x256.Idx → Elt F .bf16 :=
  bM.view.readAt (Elt F) (Rect.unit (s := S8x272x256) (k0_off7 c (BitVec.ofNat 32 (1 + k.val))) S1x128x256.size (k0_off7_inb c k)).toLoadRect (want m ρ)
abbrev counts : S8x1x256.Idx → Elt F .bf16 :=
  bM.view.readAt (Elt F) (Rect.unit (s := S8x272x256) ![0, 256, 0] S8x1x256.size inb_S8x272x256_S8x1x256_0_256_0).toLoadRect (want m ρ)

/-- The tokens' experts, the tokens, their places among the device's own tokens. -/
abbrev eidx : IVec S256x1 32 := k0_pay1 (F := F) (istg m ρ c)
abbrev onehot : FVec F S256x256 .f32 := k0_pay2 (istg m ρ c)
abbrev tok : FVec F S256x128 .bf16 := k0_pay6 (xstg m ρ c)
abbrev place : FVec F S256x256 .f32 := k0_pay7 (onehot m ρ c)

/-- The sum after the device's own two experts, and after those of the `k` devices before it. -/
abbrev acc0 : FVec F S256x256 .f32 :=
  k0_pay10 (me c) (eidx m ρ c) (k0_pay3 (wstg m ρ c)) (tok m ρ c) k0_pay8 (k0_pay9 (me c) (eidx m ρ c) (xstg m ρ c))
abbrev acc1 : FVec F S256x256 .f32 :=
  k0_pay13 (eidx m ρ c) (tok m ρ c) (acc0 m ρ c) (behind c 1#32) (k0_pay11 (me c) (eidx m ρ c) (tok m ρ c)) (k0_pay12 (wLo m ρ c 0)) (wHi m ρ c 0)
abbrev acc2 : FVec F S256x256 .f32 :=
  k0_pay15 (eidx m ρ c) (tok m ρ c) (acc1 m ρ c) (behind c 2#32) (k0_pay14 (me c) (eidx m ρ c) (tok m ρ c)) (wLo m ρ c 1) (wHi m ρ c 1)
abbrev acc3 : FVec F S256x256 .f32 :=
  k0_pay17 (eidx m ρ c) (tok m ρ c) (acc2 m ρ c) (behind c 3#32) (k0_pay16 (me c) (eidx m ρ c) (tok m ρ c)) (wLo m ρ c 2) (wHi m ρ c 2)
abbrev acc4 : FVec F S256x256 .f32 :=
  k0_pay19 (eidx m ρ c) (tok m ρ c) (acc3 m ρ c) (behind c 4#32) (k0_pay18 (me c) (eidx m ρ c) (tok m ρ c)) (wLo m ρ c 3) (wHi m ρ c 3)
abbrev acc5 : FVec F S256x256 .f32 :=
  k0_pay21 (eidx m ρ c) (tok m ρ c) (acc4 m ρ c) (behind c 5#32) (k0_pay20 (me c) (eidx m ρ c) (tok m ρ c)) (wLo m ρ c 4) (wHi m ρ c 4)
abbrev acc6 : FVec F S256x256 .f32 :=
  k0_pay23 (eidx m ρ c) (tok m ρ c) (acc5 m ρ c) (behind c 6#32) (k0_pay22 (me c) (eidx m ρ c) (tok m ρ c)) (wLo m ρ c 5) (wHi m ρ c 5)

/-- What device `c` writes. -/
abbrev outAt : FVec F S256x256 .f32 :=
  k0_pay25 (me c) (eidx m ρ c) (onehot m ρ c) (tok m ρ c) (place m ρ c) (acc6 m ρ c) (behind c 7#32) (k0_pay24 (me c) (eidx m ρ c))
    (wLo m ρ c 6) (wHi m ρ c 6) (counts m ρ)

end Cert.Routed

end
-- ==== Proof.Parts.lean ====
/-
The body's parts, each run from the state the part before it leaves.
-/
module

public import proofs.«01_k».proof.Proof.Slabs
public import proofs.«01_k».proof.Proof.Out

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 15 → ℕ) (c : Dev nD)

/-! ## Whole-buffer loads and stores, and the slab by its corner -/

theorem z2 : (![0, 0] : Fin 2 → ℕ) = fun _ => 0 := by funext a; fin_cases a <;> rfl
theorem z3 : (![0, 0, 0] : Fin 3 → ℕ) = fun _ => 0 := by funext a; fin_cases a <;> rfl

theorem slab_at {off : Fin 3 → ℕ} (p : Dev nD) (h : off = ![p.val, 0, 0]) (hin) :
    (bM.slice (Rect.unit (s := S8x272x256) off S1x272x256.size hin) (fun _ => rfl)).squeeze S272x256 squeezes_S1x272x256_S272x256 = slabM p := by
  subst h; rfl

/-- A rectangle of 128 rows of one slab, from row 0 or 128, has rows that mean anything, of that slab only. -/
theorem rows_in {off : Fin 3 → ℕ} (p : Dev nD) (r0 : ℕ) (h0 : r0 ≤ 128) (h : off = ![p.val, r0, 0]) (hin) :
    ∀ i ∈ (Rect.unit (s := S8x272x256) off S1x128x256.size hin).set, (i 0).val = p.val ∧ (i 1).val ≤ 256 := fun i hi => by
  subst h
  have a := (Rect.mem_set_unit.mp hi) 0
  have b := (Rect.mem_set_unit.mp hi) 1
  simp at a b
  omega
theorem row_in (hin) : ∀ i ∈ (Rect.unit (s := S8x272x256) ![0, 256, 0] S8x1x256.size hin).set, (i 1).val ≤ 256 := fun i hi => by
  have b := (Rect.mem_set_unit.mp hi) 1
  simp at b
  omega

/-- A staging buffer at its contents. -/
abbrev stg (b : Ref sig .tc) (X : b.ty.Contents (Elt F)) : sProp 𝕄 := (c : Thread nD τ).loc b ↦{fullShare} X

theorem load_x (f) : xM.view.readAt (Elt F) (Rect.unit (s := S256x128) ![0, 0] S256x128.size inb_S256x128_S256x128_0_0).toLoadRect f = f :=
  Memref.readAt_unit_zero (Elt F) cc0_stg0_0 z2 _ f
theorem load_i (f) : iM.view.readAt (Elt F) (Rect.unit (s := S256x1) ![0, 0] S256x1.size inb_S256x1_S256x1_0_0).toLoadRect f = f :=
  Memref.readAt_unit_zero (Elt F) cc0_stg2_0 z2 _ f
theorem load_w (f) : wM.view.readAt (Elt F) (Rect.unit (s := S2x128x256) ![0, 0, 0] S2x128x256.size inb_S2x128x256_S2x128x256_0_0_0).toLoadRect f = f :=
  Memref.readAt_unit_zero (Elt F) cc0_stg3_0 z3 _ f
theorem store_o (f w) : (oM.access (Rect.unit (s := S256x256) ![0, 0] S256x256.size inb_S256x256_S256x256_0_0) : View sig .tc _ _ _).write (Elt F) f w Finset.univ = w :=
  Memref.write_access_unit_zero_univ (Elt F) cc0_stg4_0 z2 _ f w

theorem wx : xM.IsWhole := Memref.isWhole_whole _
theorem wr : (Memref.whole cc0_stg1_0 : Memref sig .tc .vmem S128x16 .f32).IsWhole := Memref.isWhole_whole _
theorem wi : iM.IsWhole := Memref.isWhole_whole _
theorem ww : wM.IsWhole := Memref.isWhole_whole _
theorem wo : oM.IsWhole := Memref.isWhole_whole _
theorem wb : bM.IsWhole := Memref.isWhole_whole _
abbrev rM : Memref sig .tc .vmem S128x16 .f32 := Memref.whole cc0_stg1_0

/-- A body that is over has its value. -/
theorem run_ret {α : Type} {Q : α → sProp 𝕄} {a : α} : Q a ⊢ run (F := F) c (.ret a) Q := by
  unfold run
  rw [wp_ret]
  iintro H; imodintro; iexact H

/-! ## Filling the slab and announcing -/

/-- The weights and the counts into `c`'s slab, and the first announcement. -/
theorem run_part1 {Q} :
    iprop(records m ρ K ∗ dues c (O₀ c) ∗ bigSep (from7 0) (toSignal c) ∗ stg c cc0_stg2_0 (istg m ρ c) ∗ stg c cc0_stg3_0 (wstg m ρ c)
        ∗ slabAny c c fullShare)
      ⊢ iprop(((dues c (oweRecv c 0 + oweBar c 1) ∗ bigSep (from7 1) (toSignal c) ∗ stg c cc0_stg2_0 (istg m ρ c) ∗ stg c cc0_stg3_0 (wstg m ρ c)
            ∗ slabOk m ρ c c fullShare)
          -∗ Q ⟨c, me c, eidx m ρ c, onehot m ρ c, k0_pay3 (wstg m ρ c), SemArray.scalar (sig.barrier 0 rfl)⟩)
        -∗ run c (k0_part1 xM wx rM wr iM wi wM ww oM wo bM wb cc0_scratch1 cc0_scratch2) Q) := by
  rw [k0_part1_eq_skeleton]; unfold k0_part1_skel storeSubelements
  simp only [semSignalWord, semWaitWord, Prog.lift, Prog.bind_op, Prog.bind_ret, Prog.pure_eq_ret, wp_deviceId]
  iintro ⟨#HR, HO, Hs, Hi, Hw, Hslab⟩ Hk
  iapply (wp_load 𝒱₀ (c : Thread nD τ) none Set.univ (m := iM) (Finset.subset_univ _)) $$ Hi; iintro Hi
  rw [load_i]
  iapply (wp_load 𝒱₀ (c : Thread nD τ) none Set.univ (m := wM) (Finset.subset_univ _)) $$ Hw; iintro Hw
  rw [load_w]
  iapply (step_fill m ρ c (k0_off1 c) (k0_off2 c) (k0_off3 c) (k0_off1_eq c) (k0_off2_eq c) (k0_off3_eq c) _ _ _) $$ Hslab
  iintro Hslab
  iapply (step_signal m ρ K c ⟨k0_dev1 c, k0_dev1_lt c⟩ 0 (Fin.ext (k0_dev1_eq c))) $$ [HO Hs]
  · isplitr; · iexact HR
    isplitl [HO]; · iexact HO
    iexact Hs
  iintro ⟨HO, Hs⟩
  iapply (run_ret c)
  iapply Hk
  isplitl [HO]; · iexact HO
  isplitl [Hs]; · iexact Hs
  isplitl [Hi]; · iexact Hi
  isplitl [Hw] <;> iassumption

/-- The other six announcements, and the wait for the peers'. -/
theorem run_part2 (v2 : BitVec 32) {Q} :
    iprop(records m ρ K ∗ levAts L lv ∗ dues c (oweRecv c 0 + oweBar c 1) ∗ bigSep (from7 1) (toSignal c) ∗ atPos ER (barCell c) 0 ∅ 0
        ∗ cred (tallyAt (barCell c) () 7))
      ⊢ iprop(((dues c (oweRecv c 0) ∗ semVal (barCell c) 0 ∗ bigSep Finset.univ fun k : Peer => slabAny (dst c k) c fullShare)
          -∗ Q (Scalar.remsi (Scalar.addi v2 1#32) 8#32))
        -∗ run c (k0_part2 xM wx rM wr iM wi wM ww oM wo bM wb cc0_scratch1 cc0_scratch2 c v2 (SemArray.scalar (sig.barrier 0 rfl))) Q) := by
  rw [k0_part2_eq_skeleton]; unfold k0_part2_skel
  simp only [semSignalWord, semWaitWord, Prog.lift, Prog.bind_op, Prog.bind_ret, Prog.pure_eq_ret]
  iintro ⟨#HR, #Hlev, HO, Hs, Hat, Hc⟩ Hk
  iapply (step_signal m ρ K c ⟨k0_dev2 c, k0_dev2_lt c⟩ 1 (Fin.ext (k0_dev2_eq c))) $$ [HO Hs]
  · isplitr; · iexact HR
    isplitl [HO]; · iexact HO
    iexact Hs
  iintro ⟨HO, Hs⟩
  iapply (step_signal m ρ K c ⟨k0_dev3 c, k0_dev3_lt c⟩ 2 (Fin.ext (k0_dev3_eq c))) $$ [HO Hs]
  · isplitr; · iexact HR
    isplitl [HO]; · iexact HO
    iexact Hs
  iintro ⟨HO, Hs⟩
  iapply (step_signal m ρ K c ⟨k0_dev4 c, k0_dev4_lt c⟩ 3 (Fin.ext (k0_dev4_eq c))) $$ [HO Hs]
  · isplitr; · iexact HR
    isplitl [HO]; · iexact HO
    iexact Hs
  iintro ⟨HO, Hs⟩
  iapply (step_signal m ρ K c ⟨k0_dev5 c, k0_dev5_lt c⟩ 4 (Fin.ext (k0_dev5_eq c))) $$ [HO Hs]
  · isplitr; · iexact HR
    isplitl [HO]; · iexact HO
    iexact Hs
  iintro ⟨HO, Hs⟩
  iapply (step_signal m ρ K c ⟨k0_dev6 c, k0_dev6_lt c⟩ 5 (Fin.ext (k0_dev6_eq c))) $$ [HO Hs]
  · isplitr; · iexact HR
    isplitl [HO]; · iexact HO
    iexact Hs
  iintro ⟨HO, Hs⟩
  iapply (step_signal m ρ K c ⟨k0_dev7 c, k0_dev7_lt c⟩ 6 (Fin.ext (k0_dev7_eq c))) $$ [HO Hs]
  · isplitr; · iexact HR
    isplitl [HO]; · iexact HO
    iexact Hs
  iintro ⟨HO, Hs⟩
  iapply (step_barrier m ρ K c) $$ [HO Hat Hc]
  · isplitr; · iexact HR
    isplitr; · iexact Hlev
    isplitl [HO]; · iapply (Entails.of_eq (show dues (F := F) c (oweRecv c 0 + oweBar c 7) = dues c (oweRecv c 0) by rw [oweBar_done, add_zero])); iexact HO
    isplitl [Hat] <;> iassumption
  iintro H
  iapply (run_ret c)
  iapply Hk
  iexact H

/-! ## Sending -/

/-- Copies 0 to 1 sent. -/
theorem run_part3 (v2 v55 : BitVec 32) {Q} :
    iprop(records m ρ K ∗ dues c (oweRecv c 0) ∗ bigSep (from7 0) (readySend m ρ c) ∗ bigSep (upto7 0) (sent c))
      ⊢ iprop(((dues c (oweRecv c 2) ∗ bigSep (from7 2) (readySend m ρ c) ∗ bigSep (upto7 2) (sent c)) -∗ Q ⟨⟩)
        -∗ run c (k0_part3 xM wx rM wr iM wi wM ww oM wo bM wb cc0_scratch1 cc0_scratch2 c v2 v55) Q) := by
  rw [k0_part3_eq_skeleton]; unfold k0_part3_skel
  simp only [semSignalWord, semWaitWord, Prog.lift, Prog.bind_op, Prog.bind_ret, Prog.pure_eq_ret]
  iintro ⟨#HR, HO, Hr, Hs⟩ Hk
  iapply (step_send m ρ K c ⟨k0_dev8 c, k0_dev8_lt c⟩ 0 (Fin.ext (k0_dev8_eq c)) _ _ rfl rfl _ (slab_at c (k0_off4_eq c) _)) $$ [HO Hr Hs]
  · isplitr; · iexact HR
    isplitl [HO]; · iexact HO
    isplitl [Hr]; · iexact Hr
    iexact Hs
  iintro ⟨HO, Hr, Hs⟩
  iapply (step_send m ρ K c ⟨k0_dev9 c, k0_dev9_lt c⟩ 1 (Fin.ext (k0_dev9_eq c)) _ _ rfl rfl _ (slab_at c (k0_off4_eq c) _)) $$ [HO Hr Hs]
  · isplitr; · iexact HR
    isplitl [HO]; · iexact HO
    isplitl [Hr]; · iexact Hr
    iexact Hs
  iintro ⟨HO, Hr, Hs⟩
  iapply (run_ret c)
  iapply Hk
  isplitl [HO]; · iexact HO
  isplitl [Hr]; · iexact Hr
  iexact Hs

/-- Copies 2 to 4 sent. -/
theorem run_part4 (v2 : BitVec 32) {Q} :
    iprop(records m ρ K ∗ dues c (oweRecv c 2) ∗ bigSep (from7 2) (readySend m ρ c) ∗ bigSep (upto7 2) (sent c))
      ⊢ iprop(((dues c (oweRecv c 5) ∗ bigSep (from7 5) (readySend m ρ c) ∗ bigSep (upto7 5) (sent c)) -∗ Q ⟨⟩)
        -∗ run c (k0_part4 xM wx rM wr iM wi wM ww oM wo bM wb cc0_scratch1 cc0_scratch2 c v2) Q) := by
  rw [k0_part4_eq_skeleton]; unfold k0_part4_skel
  simp only [semSignalWord, semWaitWord, Prog.lift, Prog.bind_op, Prog.bind_ret, Prog.pure_eq_ret]
  iintro ⟨#HR, HO, Hr, Hs⟩ Hk
  iapply (step_send m ρ K c ⟨k0_dev10 c, k0_dev10_lt c⟩ 2 (Fin.ext (k0_dev10_eq c)) _ _ rfl rfl _ (slab_at c (k0_off4_eq c) _)) $$ [HO Hr Hs]
  · isplitr; · iexact HR
    isplitl [HO]; · iexact HO
    isplitl [Hr]; · iexact Hr
    iexact Hs
  iintro ⟨HO, Hr, Hs⟩
  iapply (step_send m ρ K c ⟨k0_dev11 c, k0_dev11_lt c⟩ 3 (Fin.ext (k0_dev11_eq c)) _ _ rfl rfl _ (slab_at c (k0_off4_eq c) _)) $$ [HO Hr Hs]
  · isplitr; · iexact HR
    isplitl [HO]; · iexact HO
    isplitl [Hr]; · iexact Hr
    iexact Hs
  iintro ⟨HO, Hr, Hs⟩
  iapply (step_send m ρ K c ⟨k0_dev12 c, k0_dev12_lt c⟩ 4 (Fin.ext (k0_dev12_eq c)) _ _ rfl rfl _ (slab_at c (k0_off4_eq c) _)) $$ [HO Hr Hs]
  · isplitr; · iexact HR
    isplitl [HO]; · iexact HO
    isplitl [Hr]; · iexact Hr
    iexact Hs
  iintro ⟨HO, Hr, Hs⟩
  iapply (run_ret c)
  iapply Hk
  isplitl [HO]; · iexact HO
  isplitl [Hr]; · iexact Hr
  iexact Hs

/-- The last two copies sent, and the tokens read. -/
theorem run_part5 {Q} :
    iprop(records m ρ K ∗ dues c (oweRecv c 5) ∗ bigSep (from7 5) (readySend m ρ c) ∗ bigSep (upto7 5) (sent c) ∗ stg c cc0_stg0_0 (xstg m ρ c))
      ⊢ iprop(((dues c 0 ∗ bigSep (upto7 7) (sent c) ∗ stg c cc0_stg0_0 (xstg m ρ c))
          -∗ Q ⟨tok m ρ c, place m ρ c, k0_pay8, k0_pay9 (me c) (eidx m ρ c) (xstg m ρ c)⟩)
        -∗ run c (k0_part5 xM wx rM wr iM wi wM ww oM wo bM wb cc0_scratch1 cc0_scratch2 c (me c) (eidx m ρ c) (onehot m ρ c)) Q) := by
  rw [k0_part5_eq_skeleton]; unfold k0_part5_skel
  simp only [semSignalWord, semWaitWord, Prog.lift, Prog.bind_op, Prog.bind_ret, Prog.pure_eq_ret]
  iintro ⟨#HR, HO, Hr, Hs, Hx⟩ Hk
  iapply (step_send m ρ K c ⟨k0_dev13 c, k0_dev13_lt c⟩ 5 (Fin.ext (k0_dev13_eq c)) _ _ rfl rfl _ (slab_at c (k0_off4_eq c) _)) $$ [HO Hr Hs]
  · isplitr; · iexact HR
    isplitl [HO]; · iexact HO
    isplitl [Hr]; · iexact Hr
    iexact Hs
  iintro ⟨HO, Hr, Hs⟩
  iapply (step_send m ρ K c ⟨k0_dev14 c, k0_dev14_lt c⟩ 6 (Fin.ext (k0_dev14_eq c)) _ _ rfl rfl _ (slab_at c (k0_off4_eq c) _)) $$ [HO Hr Hs]
  · isplitr; · iexact HR
    isplitl [HO]; · iexact HO
    isplitl [Hr]; · iexact Hr
    iexact Hs
  iintro ⟨HO, Hr, Hs⟩
  iapply (wp_load 𝒱₀ (c : Thread nD τ) none Set.univ (m := xM) (Finset.subset_univ _)) $$ Hx; iintro Hx
  rw [load_x]
  iapply (run_ret c)
  iapply Hk
  isplitl [HO]; · iapply (Entails.of_eq (show dues (F := F) c (oweRecv c 7) = dues c 0 by rw [oweRecv_done])); iexact HO
  isplitl [Hs]; · iexact Hs
  iexact Hx

/-! ## Receiving -/

/-- The first slab arrives; its first matrix read. -/
theorem run_part6 {Q} :
    iprop(records m ρ K ∗ dues c 0 ∗ bigSep (from7 0) (toRecv c) ∗ bigSep (upto7 0) (got m ρ c))
      ⊢ iprop(((dues c 0 ∗ bigSep (from7 1) (toRecv c) ∗ bigSep (upto7 1) (got m ρ c)) -∗ Q ⟨acc0 m ρ c, behind c 1#32, k0_pay11 (me c) (eidx m ρ c) (tok m ρ c), k0_pay12 (wLo m ρ c 0)⟩)
        -∗ run c (k0_part6 xM wx rM wr iM wi wM ww oM wo bM wb cc0_scratch1 cc0_scratch2 c (me c) (eidx m ρ c) (k0_pay3 (wstg m ρ c)) (tok m ρ c) k0_pay8 (k0_pay9 (me c) (eidx m ρ c) (xstg m ρ c))) Q) := by
  rw [k0_part6_eq_skeleton]; unfold k0_part6_skel
  simp only [semSignalWord, semWaitWord, Prog.lift, Prog.bind_op, Prog.bind_ret, Prog.pure_eq_ret]
  iintro ⟨#HR, HO, Hr, Hg⟩ Hk
  iapply (step_recv m ρ K c 0 _ rfl _ _ (slab_at (src c 0) (k0_off5_eq c 0) _)) $$ [HO Hr Hg]
  · isplitr; · iexact HR
    isplitl [HO]; · iexact HO
    isplitl [Hr]; · iexact Hr
    iexact Hg
  iintro ⟨HO, Hr, Hg⟩
  iapply (step_load m ρ c 1 0 (by decide) _ (rows_in (src c 0) 0 (by decide) (k0_off6_eq c 0) _)) $$ [Hg]
  · iexact Hg
  iintro Hg
  iapply (run_ret c)
  iapply Hk
  isplitl [HO]; · iexact HO
  isplitl [Hr]; · iexact Hr
  iexact Hg

/-- The first slab's second matrix read; the second slab arrives; its first matrix read. -/
theorem run_part7 {Q} :
    iprop(records m ρ K ∗ dues c 0 ∗ bigSep (from7 1) (toRecv c) ∗ bigSep (upto7 1) (got m ρ c))
      ⊢ iprop(((dues c 0 ∗ bigSep (from7 2) (toRecv c) ∗ bigSep (upto7 2) (got m ρ c)) -∗ Q ⟨acc1 m ρ c, behind c 2#32, k0_pay14 (me c) (eidx m ρ c) (tok m ρ c), wLo m ρ c 1⟩)
        -∗ run c (k0_part7 xM wx rM wr iM wi wM ww oM wo bM wb cc0_scratch1 cc0_scratch2 c (me c) (eidx m ρ c) (tok m ρ c) (acc0 m ρ c) (behind c 1#32) (k0_pay11 (me c) (eidx m ρ c) (tok m ρ c)) (k0_pay12 (wLo m ρ c 0))) Q) := by
  rw [k0_part7_eq_skeleton]; unfold k0_part7_skel
  simp only [semSignalWord, semWaitWord, Prog.lift, Prog.bind_op, Prog.bind_ret, Prog.pure_eq_ret]
  iintro ⟨#HR, HO, Hr, Hg⟩ Hk
  iapply (step_load m ρ c 1 0 (by decide) _ (rows_in (src c 0) 128 (by decide) (k0_off7_eq c 0) _)) $$ [Hg]
  · iexact Hg
  iintro Hg
  iapply (step_recv m ρ K c 1 _ rfl _ _ (slab_at (src c 1) (k0_off5_eq c 1) _)) $$ [HO Hr Hg]
  · isplitr; · iexact HR
    isplitl [HO]; · iexact HO
    isplitl [Hr]; · iexact Hr
    iexact Hg
  iintro ⟨HO, Hr, Hg⟩
  iapply (step_load m ρ c 2 1 (by decide) _ (rows_in (src c 1) 0 (by decide) (k0_off6_eq c 1) _)) $$ [Hg]
  · iexact Hg
  iintro Hg
  iapply (run_ret c)
  iapply Hk
  isplitl [HO]; · iexact HO
  isplitl [Hr]; · iexact Hr
  iexact Hg

/-- The second slab's second matrix read; the third slab arrives. -/
theorem run_part8 {Q} :
    iprop(records m ρ K ∗ dues c 0 ∗ bigSep (from7 2) (toRecv c) ∗ bigSep (upto7 2) (got m ρ c))
      ⊢ iprop(((dues c 0 ∗ bigSep (from7 3) (toRecv c) ∗ bigSep (upto7 3) (got m ρ c)) -∗ Q ⟨acc2 m ρ c, behind c 3#32, k0_pay16 (me c) (eidx m ρ c) (tok m ρ c)⟩)
        -∗ run c (k0_part8 xM wx rM wr iM wi wM ww oM wo bM wb cc0_scratch1 cc0_scratch2 c (me c) (eidx m ρ c) (tok m ρ c) (acc1 m ρ c) (behind c 2#32) (k0_pay14 (me c) (eidx m ρ c) (tok m ρ c)) (wLo m ρ c 1)) Q) := by
  rw [k0_part8_eq_skeleton]; unfold k0_part8_skel
  simp only [semSignalWord, semWaitWord, Prog.lift, Prog.bind_op, Prog.bind_ret, Prog.pure_eq_ret]
  iintro ⟨#HR, HO, Hr, Hg⟩ Hk
  iapply (step_load m ρ c 2 1 (by decide) _ (rows_in (src c 1) 128 (by decide) (k0_off7_eq c 1) _)) $$ [Hg]
  · iexact Hg
  iintro Hg
  iapply (step_recv m ρ K c 2 _ rfl _ _ (slab_at (src c 2) (k0_off5_eq c 2) _)) $$ [HO Hr Hg]
  · isplitr; · iexact HR
    isplitl [HO]; · iexact HO
    isplitl [Hr]; · iexact Hr
    iexact Hg
  iintro ⟨HO, Hr, Hg⟩
  iapply (run_ret c)
  iapply Hk
  isplitl [HO]; · iexact HO
  isplitl [Hr]; · iexact Hr
  iexact Hg

/-- Slab 3 of seven read; the next arrives. -/
theorem run_part9 {Q} :
    iprop(records m ρ K ∗ dues c 0 ∗ bigSep (from7 3) (toRecv c) ∗ bigSep (upto7 3) (got m ρ c))
      ⊢ iprop(((dues c 0 ∗ bigSep (from7 4) (toRecv c) ∗ bigSep (upto7 4) (got m ρ c)) -∗ Q ⟨acc3 m ρ c, behind c 4#32, k0_pay18 (me c) (eidx m ρ c) (tok m ρ c)⟩)
        -∗ run c (k0_part9 xM wx rM wr iM wi wM ww oM wo bM wb cc0_scratch1 cc0_scratch2 c (me c) (eidx m ρ c) (tok m ρ c) (acc2 m ρ c) (behind c 3#32) (k0_pay16 (me c) (eidx m ρ c) (tok m ρ c))) Q) := by
  rw [k0_part9_eq_skeleton]; unfold k0_part9_skel
  simp only [semSignalWord, semWaitWord, Prog.lift, Prog.bind_op, Prog.bind_ret, Prog.pure_eq_ret]
  iintro ⟨#HR, HO, Hr, Hg⟩ Hk
  iapply (step_load m ρ c 3 2 (by decide) _ (rows_in (src c 2) 0 (by decide) (k0_off6_eq c 2) _)) $$ [Hg]
  · iexact Hg
  iintro Hg
  iapply (step_load m ρ c 3 2 (by decide) _ (rows_in (src c 2) 128 (by decide) (k0_off7_eq c 2) _)) $$ [Hg]
  · iexact Hg
  iintro Hg
  iapply (step_recv m ρ K c 3 _ rfl _ _ (slab_at (src c 3) (k0_off5_eq c 3) _)) $$ [HO Hr Hg]
  · isplitr; · iexact HR
    isplitl [HO]; · iexact HO
    isplitl [Hr]; · iexact Hr
    iexact Hg
  iintro ⟨HO, Hr, Hg⟩
  iapply (run_ret c)
  iapply Hk
  isplitl [HO]; · iexact HO
  isplitl [Hr]; · iexact Hr
  iexact Hg

/-- Slab 4 of seven read; the next arrives. -/
theorem run_part10 {Q} :
    iprop(records m ρ K ∗ dues c 0 ∗ bigSep (from7 4) (toRecv c) ∗ bigSep (upto7 4) (got m ρ c))
      ⊢ iprop(((dues c 0 ∗ bigSep (from7 5) (toRecv c) ∗ bigSep (upto7 5) (got m ρ c)) -∗ Q ⟨acc4 m ρ c, behind c 5#32, k0_pay20 (me c) (eidx m ρ c) (tok m ρ c)⟩)
        -∗ run c (k0_part10 xM wx rM wr iM wi wM ww oM wo bM wb cc0_scratch1 cc0_scratch2 c (me c) (eidx m ρ c) (tok m ρ c) (acc3 m ρ c) (behind c 4#32) (k0_pay18 (me c) (eidx m ρ c) (tok m ρ c))) Q) := by
  rw [k0_part10_eq_skeleton]; unfold k0_part10_skel
  simp only [semSignalWord, semWaitWord, Prog.lift, Prog.bind_op, Prog.bind_ret, Prog.pure_eq_ret]
  iintro ⟨#HR, HO, Hr, Hg⟩ Hk
  iapply (step_load m ρ c 4 3 (by decide) _ (rows_in (src c 3) 0 (by decide) (k0_off6_eq c 3) _)) $$ [Hg]
  · iexact Hg
  iintro Hg
  iapply (step_load m ρ c 4 3 (by decide) _ (rows_in (src c 3) 128 (by decide) (k0_off7_eq c 3) _)) $$ [Hg]
  · iexact Hg
  iintro Hg
  iapply (step_recv m ρ K c 4 _ rfl _ _ (slab_at (src c 4) (k0_off5_eq c 4) _)) $$ [HO Hr Hg]
  · isplitr; · iexact HR
    isplitl [HO]; · iexact HO
    isplitl [Hr]; · iexact Hr
    iexact Hg
  iintro ⟨HO, Hr, Hg⟩
  iapply (run_ret c)
  iapply Hk
  isplitl [HO]; · iexact HO
  isplitl [Hr]; · iexact Hr
  iexact Hg

/-- Slab 5 of seven read; the next arrives. -/
theorem run_part11 {Q} :
    iprop(records m ρ K ∗ dues c 0 ∗ bigSep (from7 5) (toRecv c) ∗ bigSep (upto7 5) (got m ρ c))
      ⊢ iprop(((dues c 0 ∗ bigSep (from7 6) (toRecv c) ∗ bigSep (upto7 6) (got m ρ c)) -∗ Q ⟨acc5 m ρ c, behind c 6#32, k0_pay22 (me c) (eidx m ρ c) (tok m ρ c)⟩)
        -∗ run c (k0_part11 xM wx rM wr iM wi wM ww oM wo bM wb cc0_scratch1 cc0_scratch2 c (me c) (eidx m ρ c) (tok m ρ c) (acc4 m ρ c) (behind c 5#32) (k0_pay20 (me c) (eidx m ρ c) (tok m ρ c))) Q) := by
  rw [k0_part11_eq_skeleton]; unfold k0_part11_skel
  simp only [semSignalWord, semWaitWord, Prog.lift, Prog.bind_op, Prog.bind_ret, Prog.pure_eq_ret]
  iintro ⟨#HR, HO, Hr, Hg⟩ Hk
  iapply (step_load m ρ c 5 4 (by decide) _ (rows_in (src c 4) 0 (by decide) (k0_off6_eq c 4) _)) $$ [Hg]
  · iexact Hg
  iintro Hg
  iapply (step_load m ρ c 5 4 (by decide) _ (rows_in (src c 4) 128 (by decide) (k0_off7_eq c 4) _)) $$ [Hg]
  · iexact Hg
  iintro Hg
  iapply (step_recv m ρ K c 5 _ rfl _ _ (slab_at (src c 5) (k0_off5_eq c 5) _)) $$ [HO Hr Hg]
  · isplitr; · iexact HR
    isplitl [HO]; · iexact HO
    isplitl [Hr]; · iexact Hr
    iexact Hg
  iintro ⟨HO, Hr, Hg⟩
  iapply (run_ret c)
  iapply Hk
  isplitl [HO]; · iexact HO
  isplitl [Hr]; · iexact Hr
  iexact Hg

/-- Slab 6 of seven read; the next arrives. -/
theorem run_part12 {Q} :
    iprop(records m ρ K ∗ dues c 0 ∗ bigSep (from7 6) (toRecv c) ∗ bigSep (upto7 6) (got m ρ c))
      ⊢ iprop(((dues c 0 ∗ bigSep (from7 7) (toRecv c) ∗ bigSep (upto7 7) (got m ρ c)) -∗ Q ⟨acc6 m ρ c, behind c 7#32, k0_pay24 (F := F) (me c) (eidx m ρ c)⟩)
        -∗ run c (k0_part12 xM wx rM wr iM wi wM ww oM wo bM wb cc0_scratch1 cc0_scratch2 c (me c) (eidx m ρ c) (tok m ρ c) (acc5 m ρ c) (behind c 6#32) (k0_pay22 (me c) (eidx m ρ c) (tok m ρ c))) Q) := by
  rw [k0_part12_eq_skeleton]; unfold k0_part12_skel
  simp only [semSignalWord, semWaitWord, Prog.lift, Prog.bind_op, Prog.bind_ret, Prog.pure_eq_ret]
  iintro ⟨#HR, HO, Hr, Hg⟩ Hk
  iapply (step_load m ρ c 6 5 (by decide) _ (rows_in (src c 5) 0 (by decide) (k0_off6_eq c 5) _)) $$ [Hg]
  · iexact Hg
  iintro Hg
  iapply (step_load m ρ c 6 5 (by decide) _ (rows_in (src c 5) 128 (by decide) (k0_off7_eq c 5) _)) $$ [Hg]
  · iexact Hg
  iintro Hg
  iapply (step_recv m ρ K c 6 _ rfl _ _ (slab_at (src c 6) (k0_off5_eq c 6) _)) $$ [HO Hr Hg]
  · isplitr; · iexact HR
    isplitl [HO]; · iexact HO
    isplitl [Hr]; · iexact Hr
    iexact Hg
  iintro ⟨HO, Hr, Hg⟩
  iapply (run_ret c)
  iapply Hk
  isplitl [HO]; · iexact HO
  isplitl [Hr]; · iexact Hr
  iexact Hg

/-- The last slab and everyone's counts read. -/
theorem run_part13 (fo) {Q} :
    iprop(slabOk m ρ c c keep ∗ bigSep (upto7 7) (got m ρ c) ∗ stg c cc0_stg4_0 fo)
      ⊢ iprop(((slabOk m ρ c c keep ∗ bigSep (upto7 7) (got m ρ c) ∗ stg c cc0_stg4_0 fo) -∗ Q (outAt m ρ c))
        -∗ run c (k0_part13 xM wx rM wr iM wi wM ww oM wo bM wb cc0_scratch1 cc0_scratch2 c (me c) (eidx m ρ c) (onehot m ρ c) (tok m ρ c) (place m ρ c) (acc6 m ρ c) (behind c 7#32)
          (k0_pay24 (F := F) (me c) (eidx m ρ c))) Q) := by
  rw [k0_part13_eq_skeleton]; unfold k0_part13_skel
  simp only [semSignalWord, semWaitWord, Prog.lift, Prog.bind_op, Prog.bind_ret, Prog.pure_eq_ret]
  iintro ⟨Hs, Hg, Ho⟩ Hk
  iapply (step_load m ρ c 7 6 (by decide) _ (rows_in (src c 6) 0 (by decide) (k0_off6_eq c 6) _)) $$ [Hg]
  · iexact Hg
  iintro Hg
  iapply (step_load m ρ c 7 6 (by decide) _ (rows_in (src c 6) 128 (by decide) (k0_off7_eq c 6) _)) $$ [Hg]
  · iexact Hg
  iintro Hg
  rw [upto7_seven]
  unfold got
  ihave Hg := (Entails.of_eq (bigSep_sep' (s := Finset.univ) (Φ := fun k : Peer => slabOk m ρ c (src c k) fullShare)
    (Ψ := fun k : Peer => semVal (recvCell c k) 0))) $$ Hg
  icases Hg with ⟨Hg, Hz⟩
  iapply (step_counts m ρ c _ (row_in _)) $$ [Hs Hg]
  · isplitl [Hs] <;> iassumption
  iintro ⟨Hs, Hg⟩
  iapply (wp_load 𝒱₀ (c : Thread nD τ) none Set.univ (m := oM) (Finset.subset_univ _)) $$ Ho; iintro Ho
  iapply (run_ret c)
  iapply Hk
  isplitl [Hs]; · iexact Hs
  isplitl [Hg Hz]
  · iapply (Entails.of_eq (bigSep_sep' (s := Finset.univ) (Φ := fun k : Peer => slabOk m ρ c (src c k) fullShare)
      (Ψ := fun k : Peer => semVal (recvCell c k) 0)).symm)
    isplitl [Hg] <;> iassumption
  iexact Ho

/-! ## Writing the result, and the sent copies' departures -/

/-- The result stored; the first four departures. -/
theorem run_part14 (fo) (v : FVec F S256x256 .f32) {Q} :
    iprop(records m ρ K ∗ dues c 0 ∗ bigSep (from7 0) (toBack c) ∗ bigSep (upto7 0) (back c) ∗ stg c cc0_stg4_0 fo)
      ⊢ iprop(((dues c 0 ∗ bigSep (from7 4) (toBack c) ∗ bigSep (upto7 4) (back c) ∗ stg c cc0_stg4_0 v) -∗ Q ⟨⟩)
        -∗ run c (k0_part14 xM wx rM wr iM wi wM ww oM wo bM wb cc0_scratch1 cc0_scratch2 c v) Q) := by
  rw [k0_part14_eq_skeleton]; unfold k0_part14_skel
  simp only [semSignalWord, semWaitWord, Prog.lift, Prog.bind_op, Prog.bind_ret, Prog.pure_eq_ret]
  iintro ⟨#HR, HO, Hr, Hg, Ho⟩ Hk
  iapply (wp_store 𝒱₀ (c : Thread nD τ) none Set.univ (m := oM)
    (r := Rect.unit (s := S256x256) ![0, 0] S256x256.size inb_S256x256_S256x256_0_0) (Mk := Finset.univ) (Finset.subset_univ _)) $$ Ho; iintro Ho
  rw [store_o]
  iapply (step_back m ρ K c 0 _ rfl _ _ (slab_at c (k0_off4_eq c) _)) $$ [HO Hr Hg]
  · isplitr; · iexact HR
    isplitl [HO]; · iexact HO
    isplitl [Hr]; · iexact Hr
    iexact Hg
  iintro ⟨HO, Hr, Hg⟩
  iapply (step_back m ρ K c 1 _ rfl _ _ (slab_at c (k0_off4_eq c) _)) $$ [HO Hr Hg]
  · isplitr; · iexact HR
    isplitl [HO]; · iexact HO
    isplitl [Hr]; · iexact Hr
    iexact Hg
  iintro ⟨HO, Hr, Hg⟩
  iapply (step_back m ρ K c 2 _ rfl _ _ (slab_at c (k0_off4_eq c) _)) $$ [HO Hr Hg]
  · isplitr; · iexact HR
    isplitl [HO]; · iexact HO
    isplitl [Hr]; · iexact Hr
    iexact Hg
  iintro ⟨HO, Hr, Hg⟩
  iapply (step_back m ρ K c 3 _ rfl _ _ (slab_at c (k0_off4_eq c) _)) $$ [HO Hr Hg]
  · isplitr; · iexact HR
    isplitl [HO]; · iexact HO
    isplitl [Hr]; · iexact Hr
    iexact Hg
  iintro ⟨HO, Hr, Hg⟩
  iapply (run_ret c)
  iapply Hk
  isplitl [HO]; · iexact HO
  isplitl [Hr]; · iexact Hr
  isplitl [Hg]; · iexact Hg
  iexact Ho

end Cert.Routed

end
-- ==== Proof.Body.lean ====
/-
The whole body on one device: from what the launch deals it to its result, its buffer and its counters.
-/
module

public import proofs.«01_k».proof.Proof.Parts

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 15 → ℕ) (c : Dev nD)

/-- A device's positions at its own cells, -/
def positions : sProp 𝕄 :=
  iprop(atPos ER (barCell c) 0 ∅ 0 ∗ (bigSep Finset.univ fun k : Peer => atPos ER (sendCell c k) 0 ∅ 0)
    ∗ bigSep Finset.univ fun k : Peer => atPos ER (recvCell c k) 0 ∅ 0)
/-- the duties it pays, -/
def duties : sProp 𝕄 :=
  iprop((bigSep Finset.univ fun k : Peer => dutyTok ER (barCell (dst c k)) 0 k) ∗ bigSep Finset.univ (toSend c))
/-- and the credit it waits with. -/
def credit : sProp 𝕄 :=
  iprop(cred (tallyAt (barCell c) () 7) ∗ bigSep Finset.univ fun k : Peer => cred (tallyAt (recvCell c k) () N))

/-- What the body starts from, -/
def start : sProp 𝕄 := iprop((∃ K, records m ρ K ∗ positions c ∗ duties c) ∗ credit c ∗ levAts L lv)
def Φ₀ : sProp 𝕄 := iprop(start m ρ c ∗ ∃ f, bLoc c ↦{fullShare} f)
/-- and what it leaves besides its result: the buffer, and every counter at zero. -/
def Φ₁ : sProp 𝕄 :=
  iprop((∃ f, bLoc c ↦{fullShare} f) ∗ ((bigSep Finset.univ fun k : Peer => semVal (sendCell c k) 0)
    ∗ bigSep Finset.univ fun k : Peer => semVal (recvCell c k) 0) ∗ semVal (barCell c) 0)

/-- The buffer cut into one's own slab and the peers'. -/
theorem cut : iprop(∃ f, bLoc c ↦{fullShare} f)
    ⊢ (iprop(slabAny c c fullShare ∗ bigSep Finset.univ fun k : Peer => slabAny c (dst c k) fullShare) : sProp 𝕄) := by
  rw [← fam_dst c fun p => slabAny c p fullShare]
  iintro ⟨%f, H⟩
  ihave H := (Entails.of_eq (buf_slabs c fullShare f)) $$ H
  iapply (fam_mono (s := Finset.univ) (Φ := fun p : Dev nD => slabPts c p fullShare f) fun p _ =>
    (show slabPts c p fullShare f ⊢ slabAny c p fullShare from by unfold slabAny; iintro H; iexists f; iexact H))
  iexact H

include m ρ in
/-- The slabs put together again. -/
theorem paste : iprop(slabAny c c fullShare ∗ bigSep Finset.univ fun k : Peer => slabAny c (src c k) fullShare)
    ⊢ (iprop(∃ f, bLoc c ↦{fullShare} f) : sProp 𝕄) := by
  rw [← fam_src c fun p => slabAny c p fullShare]
  unfold slabAny
  haveI : Nonempty (S8x272x256.Idx → Elt F .bf16) := ⟨want m ρ⟩
  refine (bigSep_exists_pi Finset.univ _).trans ?_
  iintro ⟨%fs, H⟩
  ihave H := (slabs_join c fullShare fs) $$ H
  icases H with ⟨%g, -, H⟩
  iexists g; iexact H

theorem run_bind {α β : Type} {Q : β → sProp 𝕄} {p : Prog (TpuEff nD τ sig (Elt F) Λ₀ .tc) α} {k : α → Prog (TpuEff nD τ sig (Elt F) Λ₀ .tc) β} :
    run c p (fun a => run c (k a) Q) ⊢ run c (p >>= k) Q := by
  unfold run; rw [wp_bind]

/-- A family of pairs as a pair of families. -/
theorem fam_sep {I : Type} (s : Finset I) (Φ Ψ : I → sProp 𝕄) :
    bigSep s (fun i => iprop(Φ i ∗ Ψ i)) ⊣⊢ iprop(bigSep s Φ ∗ bigSep s Ψ) := by
  rw [bigSep_sep']

theorem fam_nil (Φ : Peer → sProp 𝕄) : (iprop(emp) : sProp 𝕄) ⊢ bigSep (upto7 0) Φ := by
  rw [upto7_zero, bigSep_empty]; exact Entails.of_eq rfl

set_option maxHeartbeats 1000000 in
/-- The body, part after part. -/
theorem sound_body (fo) {Q : PUnit → sProp 𝕄} :
    iprop((records m ρ K ∗ positions c ∗ duties c ∗ credit c ∗ levAts L lv ∗ ∃ f, bLoc c ↦{fullShare} f) ∗ dues c (O₀ c)
        ∗ stg c cc0_stg0_0 (xstg m ρ c) ∗ stg c cc0_stg2_0 (istg m ρ c) ∗ stg c cc0_stg3_0 (wstg m ρ c) ∗ stg c cc0_stg4_0 fo)
      ⊢ iprop(((Φ₁ c ∗ dues c 0 ∗ stg c cc0_stg0_0 (xstg m ρ c) ∗ stg c cc0_stg2_0 (istg m ρ c) ∗ stg c cc0_stg3_0 (wstg m ρ c)
            ∗ stg c cc0_stg4_0 (outAt m ρ c)) -∗ Q ⟨⟩)
        -∗ run c (cc0_body xM wx rM wr iM wi wM ww oM wo bM wb cc0_scratch1 cc0_scratch2) Q) := by
  rw [cc0_body_eq_skeleton]; unfold cc0_body_skel
  unfold positions duties credit
  iintro ⟨⟨#HR, ⟨HaB, HaS, HaV⟩, ⟨HtB, HtS⟩, ⟨HcB, HcV⟩, #Hlev, Hbuf⟩, HO, Hx, Hi, Hw, Ho⟩ Hk
  ihave Hbuf := (cut c) $$ Hbuf
  icases Hbuf with ⟨Hown, Hpeer⟩
  -- the slab filled, the announcements, the barrier
  iapply (run_bind c)
  iapply (run_part1 m ρ K c) $$ [HO HtB Hpeer Hi Hw Hown]
  · isplitr; · iexact HR
    isplitl [HO]; · iexact HO
    isplitl [HtB Hpeer]
    · rw [from7_zero]
      iapply (fam_sep (F := F) Finset.univ (fun k : Peer => dutyTok ER (barCell (dst c k)) 0 k) (fun k : Peer => slabAny c (dst c k) fullShare)).2
      isplitl [HtB] <;> iassumption
    isplitl [Hi]; · iexact Hi
    isplitl [Hw] <;> iassumption
  iintro ⟨HO, Hs, Hi, Hw, Hown⟩
  dsimp only
  iapply (run_bind c)
  iapply (run_part2 m ρ K c) $$ [HO Hs HaB HcB]
  · isplitr; · iexact HR
    isplitr; · iexact Hlev
    isplitl [HO]; · iexact HO
    isplitl [Hs]; · iexact Hs
    isplitl [HaB] <;> iassumption
  iintro ⟨HO, HzB, Hpeer⟩
  -- the copies sent
  ihave Hown := (lend m ρ c c) $$ Hown
  icases Hown with ⟨Hown, Hloan⟩
  iapply (run_bind c)
  iapply (run_part3 m ρ K c) $$ [HO HtS Hpeer Hloan]
  · isplitr; · iexact HR
    isplitl [HO]; · iexact HO
    isplitl [HtS Hpeer Hloan]
    · rw [from7_zero]
      iapply (fam_sep (F := F) Finset.univ (toSend c) (fun k : Peer => iprop(slabAny (dst c k) c fullShare ∗ slabOk m ρ c c (loan k)))).2
      isplitl [HtS]; · iexact HtS
      iapply (fam_sep (F := F) Finset.univ (fun k : Peer => slabAny (dst c k) c fullShare) (fun k : Peer => slabOk m ρ c c (loan k))).2
      isplitl [Hpeer] <;> iassumption
    iapply (fam_nil _); iempintro
  iintro ⟨HO, Hr, Hs⟩
  iapply (run_bind c)
  iapply (run_part4 m ρ K c) $$ [HO Hr Hs]
  · isplitr; · iexact HR
    isplitl [HO]; · iexact HO
    isplitl [Hr] <;> iassumption
  iintro ⟨HO, Hr, Hs⟩
  iapply (run_bind c)
  iapply (run_part5 m ρ K c) $$ [HO Hr Hs Hx]
  · isplitr; · iexact HR
    isplitl [HO]; · iexact HO
    isplitl [Hr]; · iexact Hr
    isplitl [Hs] <;> iassumption
  iintro ⟨HO, Hs, Hx⟩
  dsimp only
  -- the slabs received
  iapply (run_bind c)
  iapply (run_part6 m ρ K c) $$ [HO HaV HcV]
  · isplitr; · iexact HR
    isplitl [HO]; · iexact HO
    isplitl [HaV HcV]
    · rw [from7_zero]
      iapply (fam_sep (F := F) Finset.univ (fun k : Peer => atPos ER (recvCell c k) 0 ∅ 0) (fun k : Peer => cred (tallyAt (recvCell c k) () N))).2
      isplitl [HaV] <;> iassumption
    iapply (fam_nil _); iempintro
  iintro H
  dsimp only
  iapply (run_bind c)
  iapply (run_part7 m ρ K c) $$ [H]
  · isplitr <;> iassumption
  iintro H
  dsimp only
  iapply (run_bind c)
  iapply (run_part8 m ρ K c) $$ [H]
  · isplitr <;> iassumption
  iintro H
  dsimp only
  iapply (run_bind c)
  iapply (run_part9 m ρ K c) $$ [H]
  · isplitr <;> iassumption
  iintro H
  dsimp only
  iapply (run_bind c)
  iapply (run_part10 m ρ K c) $$ [H]
  · isplitr <;> iassumption
  iintro H
  dsimp only
  iapply (run_bind c)
  iapply (run_part11 m ρ K c) $$ [H]
  · isplitr <;> iassumption
  iintro H
  dsimp only
  iapply (run_bind c)
  iapply (run_part12 m ρ K c) $$ [H]
  · isplitr <;> iassumption
  iintro ⟨HO, -, Hg⟩
  dsimp only
  iapply (run_bind c)
  iapply (run_part13 m ρ c) $$ [Hown Hg Ho]
  · isplitl [Hown]; · iexact Hown
    isplitl [Hg] <;> iassumption
  iintro ⟨Hown, Hg, Ho⟩
  -- the result stored, the departures
  iapply (run_bind c)
  iapply (run_part14 m ρ K c) $$ [HO HaS Hs Ho]
  · isplitr; · iexact HR
    isplitl [HO]; · iexact HO
    isplitl [HaS Hs]
    · rw [from7_zero, upto7_seven]
      iapply (fam_sep (F := F) Finset.univ (fun k : Peer => atPos ER (sendCell c k) 0 ∅ 0) (sent c)).2
      isplitl [HaS] <;> iassumption
    isplitr; · iapply (fam_nil _); iempintro
    iexact Ho
  iintro ⟨HO, Hr, Hb, Ho⟩
  simp only [Prog.lift, Prog.bind_op, Prog.bind_ret, Prog.pure_eq_ret]
  iapply (step_back m ρ K c 4 _ rfl _ _ (slab_at c (k0_off4_eq c) _)) $$ [HO Hr Hb]
  · isplitr; · iexact HR
    isplitl [HO]; · iexact HO
    isplitl [Hr]; · iexact Hr
    iexact Hb
  iintro ⟨HO, Hr, Hb⟩
  iapply (step_back m ρ K c 5 _ rfl _ _ (slab_at c (k0_off4_eq c) _)) $$ [HO Hr Hb]
  · isplitr; · iexact HR
    isplitl [HO]; · iexact HO
    isplitl [Hr]; · iexact Hr
    iexact Hb
  iintro ⟨HO, Hr, Hb⟩
  iapply (step_back m ρ K c 6 _ rfl _ _ (slab_at c (k0_off4_eq c) _)) $$ [HO Hr Hb]
  · isplitr; · iexact HR
    isplitl [HO]; · iexact HO
    isplitl [Hr]; · iexact Hr
    iexact Hb
  iintro ⟨HO, -, Hb⟩
  iapply (run_ret c)
  iapply Hk
  -- the loans back, the buffer whole
  ihave Hb := (show bigSep (upto7 7) (back (F := F) c) ⊢ iprop((bigSep Finset.univ fun k : Peer => slabAny c c (loan k))
      ∗ bigSep Finset.univ fun k : Peer => semVal (sendCell c k) 0) from by rw [upto7_seven]; exact (fam_sep (F := F) _ _ _).1) $$ [Hb]
  · iexact Hb
  icases Hb with ⟨Hl, HzS⟩
  ihave Hown := (unlend m ρ c c) $$ [Hown Hl]
  · isplitl [Hown] <;> iassumption
  ihave Hg := (show bigSep (upto7 7) (got m ρ c) ⊢ iprop((bigSep Finset.univ fun k : Peer => slabOk m ρ c (src c k) fullShare)
      ∗ bigSep Finset.univ fun k : Peer => semVal (recvCell c k) 0) from by rw [upto7_seven]; exact (fam_sep (F := F) _ _ _).1) $$ Hg
  icases Hg with ⟨Hg, HzV⟩
  isplitl [Hown Hg HzS HzV HzB]
  · unfold Φ₁
    isplitl [Hown Hg]
    · iapply (paste m ρ c)
      isplitl [Hown]
      · iapply (slabAny_of_ok m ρ c c fullShare); iexact Hown
      · iapply (fam_mono (s := Finset.univ) fun k _ => slabAny_of_ok m ρ c (src c k) fullShare); iexact Hg
    isplitr [HzB]
    · isplitl [HzS] <;> iassumption
    · iexact HzB
  isplitl [HO]; · iexact HO
  isplitl [Hx]; · iexact Hx
  isplitl [Hi]; · iexact Hi
  isplitl [Hw] <;> iassumption

end Cert.Routed

end
-- ==== Proof.Launch.lean ====
/-
The launch on the eight devices, and the run: the protocol's ghost state made and dealt, the launch's credit counted, and
every execution of @main followed to its end, for any float values.
-/
module

public import proofs.«01_k».proof.Proof.Body
public import Idealize.ShloMosaic.Lib.Pipeline.CollectiveSegs

@[expose] public section

noncomputable section

namespace Cert.Routed

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data and its body -/

/-- The arrays as at launch, the staging buffers after the body, and what the body takes, leaves and owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => istg m ρ c
    | ⟨3, _⟩ => wstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetched (w : Fin cfg0.W) (hw : w.val < 4) : (cfg0.win w).fetch t0_0 = true := by
  revert w; decide

/-- A staging buffer at contents named, -/
abbrev stgEq (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stgEq_elim (c : Dev nD) (b : Ref sig .tc) (X : b.ty.Contents (Elt F)) : stgEq c b X ⊢ stg c b X := by
  iintro ⟨%f, %hf, H⟩; subst hf; iexact H
theorem stgEq_intro (c : Dev nD) (b : Ref sig .tc) (X : b.ty.Contents (Elt F)) : stg c b X ⊢ stgEq c b X := by
  iintro H; iexists X; isplitr; · ipureintro; rfl
  iexact H

/-- An input window's buffer before the body: the fetched block, whatever it held. -/
theorem fetched_elim (c : Dev nD) (b : Ref sig .tc) {D : Type} (g : D → b.ty.Contents (Elt F)) (X : b.ty.Contents (Elt F)) (h : ∀ d, g d = X) :
    iprop(∃ d, stgEq c b (g d)) ⊢ (stg c b X : sProp 𝕄) := by
  iintro ⟨%d, H⟩; rw [h d]; iapply (stgEq_elim c b X); iexact H

set_option maxRecDepth 4000 in
def bodyPre (c : Dev nD) : sProp 𝕄 :=
  iprop(Φ₀ m ρ c ∗ (dats m ρ 0 c).owesAt () t0_0.castSucc
    ∗ (∃ d, stgEq c cc0_stg0_0 ((dats m ρ 0 c).before (0 : Fin 5) t0_0 d))
    ∗ (∃ d, stgEq c cc0_stg1_0 ((dats m ρ 0 c).before (1 : Fin 5) t0_0 d))
    ∗ (∃ d, stgEq c cc0_stg2_0 ((dats m ρ 0 c).before (2 : Fin 5) t0_0 d))
    ∗ (∃ d, stgEq c cc0_stg3_0 ((dats m ρ 0 c).before (3 : Fin 5) t0_0 d))
    ∗ (∃ d, stgEq c cc0_stg4_0 ((dats m ρ 0 c).before (4 : Fin 5) t0_0 d)))
set_option maxRecDepth 4000 in
def bodyPost (c : Dev nD) : sProp 𝕄 :=
  iprop(Φ₁ c ∗ (dats m ρ 0 c).owesAt () t0_0.succ ∗ stgEq c cc0_stg0_0 (xstg m ρ c) ∗ stgEq c cc0_stg1_0 (rstg m ρ c)
    ∗ stgEq c cc0_stg2_0 (istg m ρ c) ∗ stgEq c cc0_stg3_0 (wstg m ρ c) ∗ stgEq c cc0_stg4_0 (outAt m ρ c))

theorem dues_of_owesAt (c : Dev nD) : (dats m ρ 0 c).owesAt () t0_0.castSucc ⊢ dues c (O₀ c) := by
  unfold Dat.owesAt Pipeline.owesWithin dues
  iintro ⟨%W, %hW, HO⟩
  iexists W; iexact HO
theorem owesAt_of_dues (c : Dev nD) : dues c 0 ⊢ (dats m ρ 0 c).owesAt () t0_0.succ := by
  unfold Dat.owesAt Pipeline.owesWithin dues
  iintro ⟨%W, HO⟩
  iexists W; isplitr
  · ipureintro; exact fun _ _ => Or.inl trivial
  iexact HO

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [show (bigSep (Finset.univ : Finset (Fin cfg0.W)) : _ → sProp 𝕄) = _ from funext bigSep_W0]
  simp only [owns_stage]
  show bodyPre m ρ c ⊢ run c (cc0_body xM wx rM wr iM wi wM ww oM wo bM wb cc0_scratch1 cc0_scratch2) (fun _ => bodyPost m ρ c)
  unfold bodyPre Φ₀ start
  iintro ⟨⟨⟨⟨%K, #HR, HP, HD⟩, HC, #HL⟩, Hb⟩, HO, Hx, Hr, Hi, Hw, ⟨%d, Ho⟩⟩
  ihave HO := (dues_of_owesAt m ρ c) $$ HO
  ihave Hx := (fetched_elim c cc0_stg0_0 _ (xstg m ρ c) fun d => by unfold Dat.before; rw [if_pos (fetched 0 (by decide))]; rfl) $$ Hx
  ihave Hr := (fetched_elim c cc0_stg1_0 _ (rstg m ρ c) fun d => by unfold Dat.before; rw [if_pos (fetched 1 (by decide))]; rfl) $$ Hr
  ihave Hi := (fetched_elim c cc0_stg2_0 _ (istg m ρ c) fun d => by unfold Dat.before; rw [if_pos (fetched 2 (by decide))]; rfl) $$ Hi
  ihave Hw := (fetched_elim c cc0_stg3_0 _ (wstg m ρ c) fun d => by unfold Dat.before; rw [if_pos (fetched 3 (by decide))]; rfl) $$ Hw
  ihave Ho := (stgEq_elim c cc0_stg4_0 _) $$ Ho
  iapply (sound_body m ρ K c ((dats m ρ 0 c).before (4 : Fin 5) t0_0 d) (Q := fun _ => bodyPost m ρ c)) $$ [HP HD HC Hb HO Hx Hi Hw Ho]
  · isplitl [HP HD HC Hb]
    · isplitr; · iexact HR
      isplitl [HP]; · iexact HP
      isplitl [HD]; · iexact HD
      isplitl [HC]; · iexact HC
      isplitr; · iexact HL
      iexact Hb
    isplitl [HO]; · iexact HO
    isplitl [Hx]; · iexact Hx
    isplitl [Hi]; · iexact Hi
    isplitl [Hw] <;> iassumption
  iintro ⟨HΦ, HO, Hx, Hi, Hw, Ho⟩
  unfold bodyPost
  isplitl [HΦ]; · iexact HΦ
  isplitl [HO]; · iapply (owesAt_of_dues m ρ c); iexact HO
  isplitl [Hx]; · iapply (stgEq_intro c); iexact Hx
  isplitl [Hr]; · iapply (stgEq_intro c); iexact Hr
  isplitl [Hi]; · iapply (stgEq_intro c); iexact Hi
  isplitl [Hw]; · iapply (stgEq_intro c); iexact Hw
  iapply (stgEq_intro c); iexact Ho

/-! ## The ghost state made, and dealt -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 15 → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def allCells : Finset (GSem nD τ sig) := Finset.univ.map ⟨kcell, kcell_injective⟩

/-- A duty by its device, its kind (barrier, departure, arrival) and which peer: its cell and its name there. -/
def dutySem : Fin 3 × Peer → SemLoc sig × Peer
  | (0, k) => (.reg barS, k)
  | (1, k) => (.dma (sendS k), 0)
  | (2, k) => (.dma (recvS k), 0)
theorem dutySem_injective : Function.Injective dutySem := by decide
def dutyOf (x : Dev nD × Fin 3 × Peer) : GSem nD τ sig × ℕ × Peer := (((x.1 : Thread nD τ), (dutySem x.2).1), 0, (dutySem x.2).2)
theorem dutyOf_injective : Function.Injective dutyOf := by
  rintro ⟨c, j⟩ ⟨c', j'⟩ h
  have h1 : c = c' := congrArg (fun x : GSem nD τ sig × ℕ × Peer => x.1.1.1) h
  have h2 : dutySem j = dutySem j' :=
    Prod.ext (congrArg (fun x : GSem nD τ sig × ℕ × Peer => x.1.2) h) (congrArg (fun x : GSem nD τ sig × ℕ × Peer => x.2.2) h)
  rw [h1, dutySem_injective h2]
def allDuties : Finset (GSem nD τ sig × ℕ × Peer) := Finset.univ.map ⟨dutyOf, dutyOf_injective⟩

def u₀ : UU := (initOf (Pipeline.cells cfgs cellOf_inj) (Pipeline.launchToks cfgs cellOf_inj), initOf allCells allDuties)

/-- The duties of device `c`'s own cells. -/
def ownDuties (c : Dev nD) : sProp 𝕄 :=
  iprop((bigSep Finset.univ fun k : Peer => dutyTok ER (barCell c) 0 k) ∗ (bigSep Finset.univ fun k : Peer => dutyTok ER (sendCell c k) 0 0)
    ∗ bigSep Finset.univ fun k : Peer => dutyTok ER (recvCell c k) 0 0)

/-- What the launch makes for device `c`, and what is dealt to it. -/
def G (c : Dev nD) : sProp 𝕄 :=
  iprop((bigSep Finset.univ fun k : Fin 15 => roundState ER (sched m ρ) (kcell (c, k)) 0)
    ∗ (bigSep Finset.univ fun k : Fin 15 => iprop(atPos ER (kcell (c, k)) 0 ∅ 0 ∗ reached ER (kcell (c, k)) 0)) ∗ ownDuties c)
def G' (c : Dev nD) : sProp 𝕄 := iprop(∃ K, records m ρ K ∗ positions c ∗ duties c)

theorem fam_three (Φ : Fin 3 → sProp 𝕄) : bigSep Finset.univ Φ = iprop(Φ 0 ∗ Φ 1 ∗ Φ 2) := bigSep_univ_eq_bigSepL [0, 1, 2] (by decide) (by decide) Φ

theorem sendIx_injective : Function.Injective sendIx := by decide
theorem recvIx_injective : Function.Injective recvIx := by decide
/-- A family over a device's cells: the barrier's, the sends', the receives'. -/
theorem fam_cells (Φ : Fin 15 → sProp 𝕄) :
    bigSep Finset.univ Φ = iprop(Φ 0 ∗ (bigSep Finset.univ fun k : Peer => Φ (sendIx k)) ∗ bigSep Finset.univ fun k : Peer => Φ (recvIx k)) := by
  rw [show (Finset.univ : Finset (Fin 15)) = insert 0 (Finset.univ.map ⟨sendIx, sendIx_injective⟩ ∪ Finset.univ.map ⟨recvIx, recvIx_injective⟩) from by decide,
    bigSep_insert (by decide), bigSep_union (by decide), bigSep_map, bigSep_map]
  rfl

theorem fund : BI.own (ER (initOf allCells allDuties)) ⊢ (|==> bigSep Finset.univ (G m ρ) : sProp 𝕄) := by
  have hX (Φ : GSem nD τ sig → sProp 𝕄) : bigSep allCells Φ = bigSep Finset.univ fun c : Dev nD => bigSep Finset.univ fun k : Fin 15 => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => ownDuties c := by
    unfold allDuties; rw [bigSep_map, bigSep_univ_prod]
    exact bigSep_congr fun c _ => by unfold ownDuties; rw [bigSep_univ_prod, fam_three]; rfl
  iintro HX
  imod (Rounds.fund ER (sched m ρ) allCells allDuties) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores are the sends' and the receives'; -/
theorem ownSems0_eq (c : Dev nD) : (Pipeline.ownSems0 (Ix := Unit) (Name := ℕ) (U := UU) (Lvl := ℕ) (Val := Elt F) (τ := τ) osem c : sProp 𝕄)
    = iprop((bigSep Finset.univ fun k : Peer => semVal (sendCell c k) 0) ∗ bigSep Finset.univ fun k : Peer => semVal (recvCell c k) 0) := by
  unfold Pipeline.ownSems0
  rw [show (Finset.univ : Finset (Fin 14)) = Finset.univ.map ⟨fun k : Peer => (⟨k.val, by omega⟩ : Fin 14), by decide⟩
      ∪ Finset.univ.map ⟨fun k : Peer => (⟨k.val + 7, by omega⟩ : Fin 14), by decide⟩ from by decide,
    bigSep_union (by decide), bigSep_map, bigSep_map]
  congr 1
/-- the barrier's is the launch's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem kcell_bar (c : Dev nD) : kcell (c, 0) = barCell c := by simp only [kcell, csem_bar]
theorem kcell_send (c : Dev nD) (k : Peer) : kcell (c, sendIx k) = sendCell c k := by simp only [kcell, csem_send]
theorem kcell_recv (c : Dev nD) (k : Peer) : kcell (c, recvIx k) = recvCell c k := by simp only [kcell, csem_recv]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, fam_cells]
  simp only [kcell_bar, kcell_send, kcell_recv]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ ownDuties c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (fam_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The pairs of a device and a peer, each device moved on by the peer's distance. -/
def shift : Dev nD × Peer ≃ Dev nD × Peer where
  toFun x := (dst x.1 x.2, x.2)
  invFun x := (src x.1 x.2, x.2)
  left_inv x := by simp [src_dst]
  right_inv x := by simp [dst_src]

theorem fam_shift (Φ : Dev nD → Peer → sProp 𝕄) :
    (bigSep Finset.univ fun c => bigSep Finset.univ fun k => Φ c k) = bigSep Finset.univ fun c => bigSep Finset.univ fun k => Φ (dst c k) k := by
  rw [← bigSep_univ_prod (fun x : Dev nD × Peer => Φ x.1 x.2), bigSep_univ_equiv shift, bigSep_univ_prod]; rfl

/-- Each duty to the device that pays it. -/
theorem deal : (bigSep Finset.univ fun c : Dev nD => (ownDuties c : sProp 𝕄)) = bigSep Finset.univ fun c : Dev nD => duties c := by
  unfold ownDuties duties toSend
  simp only [bigSep_sep']
  rw [fam_shift fun c k => dutyTok ER (barCell c) 0 k, fam_shift fun c k => dutyTok ER (recvCell c k) 0 0]

theorem with_records {I : Type} [DecidableEq I] {A : Finset I} {R : sProp 𝕄} [BI.Persistent R] {Φ Ψ : I → sProp 𝕄}
    (h : ∀ i ∈ A, iprop(R ∗ Φ i) ⊢ Ψ i) : iprop(R ∗ bigSep A Φ) ⊢ bigSep A Ψ :=
  (sep_mono_left (BI.bigSep_of_persistent A R)).trans (by rw [← bigSep_sep']; exact fam_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ ownDuties c) : sProp 𝕄)
      ⊢ bigSep Finset.univ (G' m ρ) := by
  rw [bigSep_sep', bigSep_sep', ← bigSep_univ_prod (fun ck : Dev nD × Fin 15 => iprop(∃ κ : ℕ, cellInv ER (sched m ρ) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄)), deal]
  iintro ⟨HI, ⟨Hat, #HR⟩, Htok⟩
  ihave HK := (BI.bigSep_exists_pi Finset.univ (fun (ck : Dev nD × Fin 15) (κ : ℕ) => (cellInv ER (sched m ρ) κ (kcell ck) : sProp 𝕄))) $$ HI
  icases HK with ⟨%K, #HI⟩
  iapply (with_records (R := records m ρ K) (Φ := fun c : Dev nD => iprop(positions c ∗ duties c)) fun c _ => show _ ⊢ G' m ρ c from by
    unfold G'; iintro H; iexists K; iexact H)
  isplitr
  · unfold records; isplitl; · iexact HI
    iexact HR
  · iapply (fam_sep (F := F) Finset.univ (fun c : Dev nD => positions c) (fun c : Dev nD => duties c)).2
    isplitl [Hat]
    · iapply (fam_mono (s := Finset.univ) (Φ := fun c : Dev nD => bigSep Finset.univ fun k : Fin 15 => (atPos ER (kcell (c, k)) 0 ∅ 0 : sProp 𝕄))
        fun c _ => show _ ⊢ positions c from Entails.of_eq (by unfold positions; rw [fam_cells]; simp only [kcell_bar, kcell_send, kcell_recv]))
      iexact Hat
    iexact Htok

/-- All devices' semaphores and ghost state at once, made into what each body starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((fam_mono fun c _ => core_alloc m ρ c).trans (bigSep_fupd _ _)).trans (BI.fupd_mono (regroup m ρ))

/-! ## The launch's credit -/

theorem cell_dev {a b : Dev nD} {s t : SemLoc sig} (h : (((a : Thread nD τ), s) : GSem nD τ sig) = ((b : Thread nD τ), t)) : a = b :=
  congrArg (fun g : GSem nD τ sig => g.1.1) h
theorem cell_sem {a b : Dev nD} {s t : SemLoc sig} (h : (((a : Thread nD τ), s) : GSem nD τ sig) = ((b : Thread nD τ), t)) : s = t :=
  congrArg Prod.snd h
theorem recvS_inj {k k' : Peer} (h : (SemLoc.dma (recvS k) : SemLoc sig) = .dma (recvS k')) : k = k' := by
  have := congrArg role h; rw [role_recv, role_recv] at this; exact Role.recv.inj this

/-- What device `d` owes a sum of single tallies' cells, at cell `g`. -/
theorem sum_tally (G : Peer → GSem nD τ sig) (n : ℕ) (g : GSem nD τ sig) :
    (∑ k ∈ from7 0, tallyAt (G k) () n : CellTallies nD τ sig Unit) g () = ∑ k : Peer, if g = G k then n else 0 := by
  rw [Finset.sum_apply, Finsupp.finset_sum_apply, from7_zero]
  refine Finset.sum_congr rfl fun k _ => ?_
  rw [tallyAt_apply]; simp only [and_true]

theorem owed_bar (d c : Dev nD) : O₀ d (barCell c) () = ∑ k : Peer, if d = src c k then 1 else 0 := by
  unfold O₀ oweRecv oweBar
  rw [Pi.add_apply, Finsupp.add_apply, sum_tally, sum_tally, Finset.sum_eq_zero fun k _ => if_neg fun h => ?_, Nat.zero_add]
  · refine Finset.sum_congr rfl fun k _ => if_congr ⟨fun h => ?_, fun h => ?_⟩ rfl rfl
    · rw [cell_dev h, src_dst]
    · rw [h, dst_src]
  · exact absurd (cell_sem h) (by rintro ⟨⟩)

theorem owed_recv (d c : Dev nD) (k : Peer) : O₀ d (recvCell c k) () = if d = src c k then N else 0 := by
  unfold O₀ oweRecv oweBar
  rw [Pi.add_apply, Finsupp.add_apply, sum_tally, sum_tally, Finset.sum_eq_zero (s := Finset.univ) (f := fun k' : Peer => if recvCell c k = barCell (dst d k') then 1 else 0)
    fun k' _ => if_neg fun h => ?_, Nat.add_zero, Finset.sum_eq_single k (fun k' _ hk => if_neg fun h => hk (recvS_inj (cell_sem h)).symm) fun h => absurd (Finset.mem_univ _) h]
  · refine if_congr ⟨fun h => ?_, fun h => ?_⟩ rfl rfl
    · rw [cell_dev h, src_dst]
    · rw [h, dst_src]
  · exact absurd (cell_sem h) (by rintro ⟨⟩)

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (src c k) fun _ => 1).trans (if_pos (Finset.mem_univ _)),
    Finset.sum_const, Finset.card_univ, Fintype.card_fin, smul_eq_mul]

theorem launch_recv (c : Dev nD) (k : Peer) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (src c k) fun _ => N,
    if_pos (Finset.mem_univ _)]

theorem creds (c : Dev nD) : (Pipeline.launchCred O₀ c : sProp 𝕄) ⊢ credit c := by
  unfold Pipeline.launchCred credit
  refine (BI.bigSep_subset (Finset.subset_univ (insert (SemLoc.reg barS)
    (Finset.univ.map ⟨fun k : Peer => (SemLoc.dma (recvS k) : SemLoc sig), fun k k' h => recvS_inj h⟩)))).trans ?_
  rw [bigSep_insert (by simp), bigSep_map, launch_bar]
  exact BIClass.sep_mono (Entails.of_eq rfl) (fam_mono fun k _ => Entails.of_eq (congrArg _ (launch_recv c k)))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What device `c`'s array of window `w` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of eight devices, for any float values, from any memory with zero counters: every weakly fair execution of
    @main ends without fault, with each device's arrays at the contents computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array ends as it began. -/
theorem finalA_in (c : Dev nD) (w : Fin cfg0.W) (hw : w.val < 4) : finalA m ρ c w = (s₀ m ρ).mem ((cfg0.win w).arr.view.loc (c : Thread nD τ)) :=
  (dats (F := F) m ρ 0 c).arrAt_in w (by revert w; decide) _

end Cert.Routed

end
-- ==== Proof.Spec.lean ====
/-
What the program is meant to compute, over the extended reals: each token's product with the matrices of its expert, kept
when fewer than the capacity of the tokens before it asked for the same expert. And the counting that the kernel does
device by device, put together into that one count.
-/
module

public import Idealize.ShloMosaic.PureOps.Ideal
public import Idealize.ShloMosaic.Lib.Pointwise

@[expose] public section

noncomputable section

namespace Cert.Routed

open Idealize.ShloMosaic

/-- The token in place `i` of device `p`, and expert `j` of device `p`. -/
def token (p : Fin 8) (i : Fin 256) : Fin 2048 := ⟨256 * p.val + i.val, by omega⟩
def expert (p : Fin 8) (j : Fin 2) : Fin 16 := ⟨2 * p.val + j.val, by omega⟩

/-- How many of the tokens before `t` ask for `w`. -/
def hits (I : Fin 2048 → BitVec 32) (t : Fin 2048) (w : BitVec 32) : EReal :=
  ∑ u : Fin 2048, if u < t then (if I u = w then 1 else 0) else 0

/-- Token `t`'s product with expert `e`'s matrix, at column `j`. -/
def prod (X : Fin 2048 → Fin 128 → EReal) (W : Fin 16 → Fin 128 → Fin 256 → EReal) (t : Fin 2048) (e : Fin 16) (j : Fin 256) : EReal :=
  ∑ d : Fin 128, X t d * W e d j

/-- Token `t`'s product with the matrix of the expert it asks for; zero where it asks for none of the sixteen. -/
def routed (X : Fin 2048 → Fin 128 → EReal) (I : Fin 2048 → BitVec 32) (W : Fin 16 → Fin 128 → Fin 256 → EReal) (t : Fin 2048) (j : Fin 256) : EReal :=
  ∑ e : Fin 16, if I t = BitVec.ofNat 32 e.val then prod X W t e j else 0

/-- The answer: the product where the token's place in its expert's queue is below the capacity, else zero. -/
def answer (cap : EReal) (X : Fin 2048 → Fin 128 → EReal) (I : Fin 2048 → BitVec 32) (W : Fin 16 → Fin 128 → Fin 256 → EReal)
    (t : Fin 2048) (j : Fin 256) : EReal :=
  if hits I t (I t) < cap then routed X I W t j else 0

/-! ## Zeros and ones -/

theorem toReal_bit (b : Bool) : (((BitVec.setWidth 32 (BitVec.ofBool b)).toInt : ℝ) : EReal) = if b then 1 else 0 := by
  cases b <;> simp

theorem bit_of {b : Bool} {p : Prop} [Decidable p] (h : b = decide p) :
    (FloatOps.sitofp .f32 (BitVec.setWidth 32 (BitVec.ofBool b)) : Ideal .f32) = if p then (1 : EReal) else 0 := by
  subst h
  refine (toReal_bit _).trans ?_
  simp

theorem mask_eq (a b : BitVec 32) :
    (FloatOps.sitofp .f32 (BitVec.setWidth 32 (IntOp.cmpi .eq a b)) : Ideal .f32) = if a = b then (1 : EReal) else 0 :=
  bit_of (by by_cases h : a = b <;> simp [h])

theorem toInt_small (a : ℕ) (ha : a < 256) : (BitVec.ofNat 32 a).toInt = a := by
  have h : (BitVec.ofNat 32 a).toNat = a := by rw [BitVec.toNat_ofNat, Nat.mod_eq_of_lt (by omega)]
  rw [BitVec.toInt_eq_toNat_of_lt (by omega), h]

theorem mask_gt (a b : ℕ) (ha : a < 256) (hb : b < 256) :
    (FloatOps.sitofp .f32 (BitVec.setWidth 32 (IntOp.cmpi .sgt (BitVec.ofNat 32 a) (BitVec.ofNat 32 b))) : Ideal .f32)
      = if b < a then (1 : EReal) else 0 :=
  bit_of (by
    have e1 : (BitVec.ofNat 32 a).toInt = a := toInt_small _ ha
    have e2 : (BitVec.ofNat 32 b).toInt = b := toInt_small _ hb
    simp [BitVec.slt, e1, e2])

theorem mask_lt (a b : ℕ) (ha : a < 256) (hb : b < 256) :
    (FloatOps.sitofp .f32 (BitVec.setWidth 32 (IntOp.cmpi .slt (BitVec.ofNat 32 a) (BitVec.ofNat 32 b))) : Ideal .f32)
      = if a < b then (1 : EReal) else 0 :=
  bit_of (by
    have e1 : (BitVec.ofNat 32 a).toInt = a := toInt_small _ ha
    have e2 : (BitVec.ofNat 32 b).toInt = b := toInt_small _ hb
    simp [BitVec.slt, e1, e2])

theorem mul_bit (a : EReal) (p : Prop) [Decidable p] : a * (if p then 1 else 0) = if p then a else 0 := by
  split <;> simp

theorem bit_mul (a : EReal) (p : Prop) [Decidable p] : (if p then 1 else 0) * a = if p then a else 0 := by
  split <;> simp

theorem sum_if {n : ℕ} (p : Prop) [Decidable p] (f : Fin n → EReal) : (∑ k, if p then f k else 0) = if p then ∑ k, f k else 0 := by
  split <;> simp

/-! ## Sums over devices -/

/-- A sum over all tokens is one over the devices and each device's tokens, -/
theorem sum_token (f : Fin 2048 → EReal) : (∑ u, f u) = ∑ p : Fin 8, ∑ k : Fin 256, f (token p k) := by
  rw [← Fintype.sum_prod_type' (f := fun p k => f (token p k))]
  refine ((finProdFinEquiv (m := 8) (n := 256)).sum_comp f).symm.trans (Finset.sum_congr rfl fun x _ => congrArg f (Fin.ext ?_))
  show x.2.val + 256 * x.1.val = 256 * x.1.val + x.2.val
  omega

/-- and one over all experts is one over the devices and each device's two. -/
theorem sum_expert (f : Fin 16 → EReal) : (∑ e, f e) = ∑ p : Fin 8, (f (expert p 0) + f (expert p 1)) := by
  refine ((finProdFinEquiv (m := 8) (n := 2)).sum_comp f).symm.trans ((Fintype.sum_prod_type _).trans (Finset.sum_congr rfl fun p _ => ?_))
  rw [Fin.sum_univ_two]
  congr 2
  · refine Fin.ext ?_
    show 0 + 2 * p.val = 2 * p.val + 0
    omega
  · refine Fin.ext ?_
    show 1 + 2 * p.val = 2 * p.val + 1
    omega

/-- The tokens before token `i` of device `c` that ask for `w`: those before it on its own device, and all those on the
    devices before. -/
theorem hits_token (I : Fin 2048 → BitVec 32) (c : Fin 8) (i : Fin 256) (w : BitVec 32) :
    hits I (token c i) w = (∑ k : Fin 256, if k.val < i.val then (if I (token c k) = w then 1 else 0) else 0)
      + ∑ p : Fin 8, if p.val < c.val then (∑ k : Fin 256, if I (token p k) = w then (1 : EReal) else 0) else 0 := by
  have h : ∀ p : Fin 8, (∑ k : Fin 256, if token p k < token c i then (if I (token p k) = w then (1 : EReal) else 0) else 0)
      = (if p = c then (∑ k : Fin 256, if k.val < i.val then (if I (token c k) = w then 1 else 0) else 0) else 0)
        + if p.val < c.val then (∑ k : Fin 256, if I (token p k) = w then (1 : EReal) else 0) else 0 := by
    intro p
    rcases lt_trichotomy p.val c.val with h | h | h
    · rw [if_neg (fun e => by rw [e] at h; exact lt_irrefl _ h), if_pos h, zero_add]
      refine Finset.sum_congr rfl fun k _ => if_pos ?_
      show 256 * p.val + k.val < 256 * c.val + i.val
      omega
    · obtain rfl : p = c := Fin.ext h
      rw [if_pos rfl, if_neg (lt_irrefl _), add_zero]
      refine Finset.sum_congr rfl fun k _ => if_congr ?_ rfl rfl
      show 256 * p.val + k.val < 256 * p.val + i.val ↔ _
      omega
    · rw [if_neg (fun e => by rw [e] at h; exact lt_irrefl _ h), if_neg (by omega), add_zero]
      refine Finset.sum_eq_zero fun k _ => if_neg ?_
      show ¬ 256 * p.val + k.val < 256 * c.val + i.val
      omega
  unfold hits
  rw [sum_token, Finset.sum_congr rfl fun p _ => h p, Finset.sum_add_distrib, Finset.sum_ite_eq' Finset.univ c, if_pos (Finset.mem_univ _)]

/-- A sum over `n` words against the one a token asks for picks that one. -/
theorem sum_pick {n : ℕ} (hn : n ≤ 2 ^ 32) (e : Fin n) (f : BitVec 32 → EReal) :
    (∑ k : Fin n, if BitVec.ofNat 32 e.val = BitVec.ofNat 32 k.val then f (BitVec.ofNat 32 k.val) else 0) = f (BitVec.ofNat 32 e.val) := by
  rw [Finset.sum_eq_single e]
  · exact if_pos rfl
  · intro k _ hk
    refine if_neg fun h => hk (Fin.ext ?_)
    have := congrArg BitVec.toNat h
    rw [BitVec.toNat_ofNat, BitVec.toNat_ofNat, Nat.mod_eq_of_lt (by omega), Nat.mod_eq_of_lt (by omega)] at this
    exact this.symm
  · exact fun h => absurd (Finset.mem_univ _) h

/-- Any computation that counts like `hits` at the sixteen experts, and masks the routed product by its count being below
    the capacity, gives the answer: where the token asks for none of the sixteen the product is zero anyway. -/
theorem answer_of {n : ℕ} (hn : 16 ≤ n) (hn' : n ≤ 2 ^ 32) (cap : EReal) (X : Fin 2048 → Fin 128 → EReal) (I : Fin 2048 → BitVec 32)
    (W : Fin 16 → Fin 128 → Fin 256 → EReal) (t : Fin 2048) (j : Fin 256) :
    (if (∑ k : Fin n, if I t = BitVec.ofNat 32 k.val then hits I t (BitVec.ofNat 32 k.val) else 0) < cap then routed X I W t j else 0)
      = answer cap X I W t j := by
  unfold answer
  by_cases h : ∃ e : Fin 16, I t = BitVec.ofNat 32 e.val
  · obtain ⟨e, he⟩ := h
    have := sum_pick hn' (⟨e.val, lt_of_lt_of_le e.isLt hn⟩ : Fin n) (hits I t)
    rw [he]
    exact if_congr (by rw [this]) rfl rfl
  · have h0 : routed X I W t j = 0 := Finset.sum_eq_zero fun e _ => if_neg fun he => h ⟨e, he⟩
    rw [h0, ite_self, ite_self]

end Cert.Routed

end
-- ==== Proof.Reads.lean ====
/-
The arrays behind the windows, and the gathered buffer read where the kernel reads it: the expert matrices of the device
`k + 1` positions before, and every device's counts.
-/
module

public import proofs.«01_k».proof.Proof.Launch
public import proofs.«01_k».proof.Proof.Spec

@[expose] public section

noncomputable section

namespace Cert.Routed

open Cert.KernelIdeal Cert.KernelIdeal.Gen

open Idealize.ShloMosaic
open Idealize.ShloMosaic.TcCoe

section Any

variable {F : FTy → Type} [FloatOps F]

variable (m : (ℓ : Loc nD τ sig) → Buf (Elt F) ℓ) (ρ : Dev nD → PrngReg) (c : Dev nD)

/-! ## Whole windows -/

theorem xstg_eq : xstg m ρ c = m ((c : Thread nD τ).loc main_arg0) :=
  funext fun i => congrArg (m ((c : Thread nD τ).loc main_arg0)) (funext fun a => Fin.ext (by
    match a with
    | ⟨0, _⟩ => show 0 + 1 * (i 0).val = (i 0).val; omega
    | ⟨1, _⟩ => show 0 + 1 * (i 1).val = (i 1).val; omega))

theorem istg_eq : istg m ρ c = m ((c : Thread nD τ).loc main_arg2) :=
  funext fun i => congrArg (m ((c : Thread nD τ).loc main_arg2)) (funext fun a => Fin.ext (by
    match a with
    | ⟨0, _⟩ => show 0 + 1 * (i 0).val = (i 0).val; omega
    | ⟨1, _⟩ => show 0 + 1 * (i 1).val = (i 1).val; omega))

theorem wstg_eq : wstg m ρ c = m ((c : Thread nD τ).loc main_arg3) :=
  funext fun i => congrArg (m ((c : Thread nD τ).loc main_arg3)) (funext fun a => Fin.ext (by
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega))

theorem out_read (A : Buf (Elt F) ((c : Thread nD τ).loc main_v1)) : (win0_4.blk (0 : Fin 1)).view.read (Elt F) A = A :=
  funext fun i => congrArg A (funext fun a => Fin.ext (by
    match a with
    | ⟨0, _⟩ => show 0 + 1 * (i 0).val = (i 0).val; omega
    | ⟨1, _⟩ => show 0 + 1 * (i 1).val = (i 1).val; omega))

/-- The output array ends holding what the body wrote. -/
theorem finalA_out : finalA m ρ c 4 = outAt m ρ c := by
  refine (out_read c _).symm.trans ?_
  have h := (dats m ρ 0 c).arrAt_succ 4 (0 : Fin 1)
  rw [if_pos (by decide)] at h
  refine (congrArg ((win0_4.blk (0 : Fin 1)).view.read (Elt F)) h).trans ?_
  exact View.read_write_univ _ _

/-! ## The gathered buffer -/

theorem wLo_at (k : Peer) (d : Fin 128) (j : Fin 256) :
    wLo m ρ c k (ix3 (0 : Fin 1) d j) = want m ρ (ix3 (src c k : Fin 8) (⟨d.val, by omega⟩ : Fin 272) j) := by
  refine congrArg (want m ρ) (funext fun a => Fin.ext ?_)
  have h := congrFun (k0_off6_eq c k) a
  match a with
  | ⟨0, _⟩ =>
    change k0_off6 c (BitVec.ofNat 32 (1 + k.val)) 0 = (c.val + 7 - k.val) % 8 at h
    show k0_off6 c (BitVec.ofNat 32 (1 + k.val)) 0 + 1 * 0 = (c.val + 7 - k.val) % 8
    omega
  | ⟨1, _⟩ =>
    change k0_off6 c (BitVec.ofNat 32 (1 + k.val)) 1 = 0 at h
    show k0_off6 c (BitVec.ofNat 32 (1 + k.val)) 1 + 1 * d.val = d.val
    omega
  | ⟨2, _⟩ =>
    change k0_off6 c (BitVec.ofNat 32 (1 + k.val)) 2 = 0 at h
    show k0_off6 c (BitVec.ofNat 32 (1 + k.val)) 2 + 1 * j.val = j.val
    omega

theorem wHi_at (k : Peer) (d : Fin 128) (j : Fin 256) :
    wHi m ρ c k (ix3 (0 : Fin 1) d j) = want m ρ (ix3 (src c k : Fin 8) (⟨128 + d.val, by omega⟩ : Fin 272) j) := by
  refine congrArg (want m ρ) (funext fun a => Fin.ext ?_)
  have h := congrFun (k0_off7_eq c k) a
  match a with
  | ⟨0, _⟩ =>
    change k0_off7 c (BitVec.ofNat 32 (1 + k.val)) 0 = (c.val + 7 - k.val) % 8 at h
    show k0_off7 c (BitVec.ofNat 32 (1 + k.val)) 0 + 1 * 0 = (c.val + 7 - k.val) % 8
    omega
  | ⟨1, _⟩ =>
    change k0_off7 c (BitVec.ofNat 32 (1 + k.val)) 1 = 128 at h
    show k0_off7 c (BitVec.ofNat 32 (1 + k.val)) 1 + 1 * d.val = 128 + d.val
    omega
  | ⟨2, _⟩ =>
    change k0_off7 c (BitVec.ofNat 32 (1 + k.val)) 2 = 0 at h
    show k0_off7 c (BitVec.ofNat 32 (1 + k.val)) 2 + 1 * j.val = j.val
    omega

/-- A load of the gathered buffer at `f`, at an index: `f` at the offset and the index added. -/
theorem load_at {off size : Fin 3 → ℕ} (inb) (f : S8x272x256.Idx → Elt F .bf16) (i : (⟨3, size⟩ : Shape).Idx) (i' : S8x272x256.Idx)
    (h : ∀ a, off a + 1 * (i a).val = (i' a).val) :
    bM.view.readAt (Elt F) (Rect.unit (s := S8x272x256) off size inb).toLoadRect f i = f i' :=
  congrArg f (funext fun a => Fin.ext (h a))

theorem counts_at (p : Fin 8) (j : Fin 256) :
    counts m ρ (ix3 p (0 : Fin 1) j) = want m ρ (ix3 p (⟨256, by omega⟩ : Fin 272) j) :=
  load_at _ (want m ρ) _ _ fun a => by
    match a with
    | ⟨0, _⟩ => show 0 + 1 * p.val = p.val; omega
    | ⟨1, _⟩ => rfl
    | ⟨2, _⟩ => show 0 + 1 * j.val = j.val; omega

end Any

end Cert.Routed

end
-- ==== Proof.Payloads.lean ====
/-
The sum a device takes over the eight slabs, one payload after another: each step adds the two experts of one device,
each masked by whether the token asks for it.
-/
module

public import proofs.«01_k».proof.Proof.Reads

@[expose] public section

set_option maxRecDepth 16384

noncomputable section

namespace Cert.Routed

open Cert.KernelIdeal Cert.KernelIdeal.Gen

open Idealize.ShloMosaic
open Idealize.ShloMosaic.TcCoe

/-! ## One expert's share of a product -/

/-- The product of token `i` with one expert's matrix, where the token asks for expert `w`. -/
def half (e : IVec S256x1 32) (t : FVec Ideal S256x128 .bf16) (w : BitVec 32) (M : Fin 128 → Fin 256 → EReal) (i j : Fin 256) : EReal :=
  if e (ix2 i 0) = w then ∑ d : Fin 128, (t (ix2 i d) : EReal) * M d j else 0

theorem half_sum (e : IVec S256x1 32) (t : FVec Ideal S256x128 .bf16) (w : BitVec 32) (M : Fin 128 → Fin 256 → EReal) (i j : Fin 256) :
    (∑ d : Fin 128, (t (ix2 i d) : EReal) * (FloatOps.sitofp .f32 (BitVec.setWidth 32 (IntOp.cmpi .eq (e (ix2 i 0)) w)) : Ideal .f32) * M d j)
      = half e t w M i j := by
  unfold half
  rw [← sum_if]
  refine Finset.sum_congr rfl fun d _ => ?_
  rw [mask_eq]
  split
  · rw [mul_one]
  · rw [mul_zero, zero_mul]

/-- Two of them added to `a`, in the order the body adds them. -/
theorem two_halves (a : EReal) (e : IVec S256x1 32) (t : FVec Ideal S256x128 .bf16) (w w' : BitVec 32) (M M' : Fin 128 → Fin 256 → EReal) (i j : Fin 256) :
    a + (∑ d : Fin 128, (t (ix2 i d) : EReal) * (FloatOps.sitofp .f32 (BitVec.setWidth 32 (IntOp.cmpi .eq (e (ix2 i 0)) w)) : Ideal .f32) * M d j)
        + (∑ d : Fin 128, (t (ix2 i d) : EReal) * (FloatOps.sitofp .f32 (BitVec.setWidth 32 (IntOp.cmpi .eq (e (ix2 i 0)) w')) : Ideal .f32) * M' d j)
      = a + (half e t w M i j + half e t w' M' i j) := by
  rw [half_sum, half_sum, add_assoc]

/-! ## The payloads -/

section Payloads

variable (e : IVec S256x1 32) (t : FVec Ideal S256x128 .bf16) (a : FVec Ideal S256x256 .f32) (v b : BitVec 32)
variable (lo hi : FVec Ideal S1x128x256 .bf16) (i j : Fin 256)

/-- The words naming a device's two experts. -/
abbrev wd0 (p : BitVec 32) : BitVec 32 := Scalar.addi (Scalar.muli p 2#32) 0#32
abbrev wd1 (p : BitVec 32) : BitVec 32 := Scalar.addi (Scalar.muli p 2#32) 1#32
abbrev prevWord (v r : BitVec 32) : BitVec 32 := Scalar.remsi (Scalar.addi (Scalar.subi v r) 8#32) 8#32

theorem own_at (x : Vec Ideal S256x128 .f32) (w : Vec Ideal S2x128x256 .f32) :
    k0_pay10 (F := Ideal) v e (k0_pay3 w) (k0_pay6 x) k0_pay8 (k0_pay9 v e x) (ix2 i j)
      = half e (k0_pay6 (F := Ideal) x) (wd0 v) (fun d j => w (ix3 0 d j)) i j + half e (k0_pay6 (F := Ideal) x) (wd1 v) (fun d j => w (ix3 1 d j)) i j := by
  rw [← zero_add (half _ _ _ _ _ _ + _), ← two_halves]
  pointwise [k0_pay10, k0_pay3, k0_pay6, k0_pay8, k0_pay9]

theorem step1_at :
    k0_pay13 (F := Ideal) e t a b (k0_pay11 v e t) (k0_pay12 lo) hi (ix2 i j)
      = (a (ix2 i j) : EReal) + (half e t (wd0 (prevWord v 1#32)) (fun d j => lo (ix3 0 d j)) i j + half e t (wd1 b) (fun d j => hi (ix3 0 d j)) i j) := by
  rw [← two_halves]
  pointwise [k0_pay13, k0_pay11, k0_pay12]

theorem step2_at :
    k0_pay15 (F := Ideal) e t a b (k0_pay14 v e t) lo hi (ix2 i j)
      = (a (ix2 i j) : EReal) + (half e t (wd0 (prevWord v 2#32)) (fun d j => lo (ix3 0 d j)) i j + half e t (wd1 b) (fun d j => hi (ix3 0 d j)) i j) := by
  rw [← two_halves]
  pointwise [k0_pay15, k0_pay14]

theorem step3_at :
    k0_pay17 (F := Ideal) e t a b (k0_pay16 v e t) lo hi (ix2 i j)
      = (a (ix2 i j) : EReal) + (half e t (wd0 (prevWord v 3#32)) (fun d j => lo (ix3 0 d j)) i j + half e t (wd1 b) (fun d j => hi (ix3 0 d j)) i j) := by
  rw [← two_halves]
  pointwise [k0_pay17, k0_pay16]

theorem step4_at :
    k0_pay19 (F := Ideal) e t a b (k0_pay18 v e t) lo hi (ix2 i j)
      = (a (ix2 i j) : EReal) + (half e t (wd0 (prevWord v 4#32)) (fun d j => lo (ix3 0 d j)) i j + half e t (wd1 b) (fun d j => hi (ix3 0 d j)) i j) := by
  rw [← two_halves]
  pointwise [k0_pay19, k0_pay18]

theorem step5_at :
    k0_pay21 (F := Ideal) e t a b (k0_pay20 v e t) lo hi (ix2 i j)
      = (a (ix2 i j) : EReal) + (half e t (wd0 (prevWord v 5#32)) (fun d j => lo (ix3 0 d j)) i j + half e t (wd1 b) (fun d j => hi (ix3 0 d j)) i j) := by
  rw [← two_halves]
  pointwise [k0_pay21, k0_pay20]

theorem step6_at :
    k0_pay23 (F := Ideal) e t a b (k0_pay22 v e t) lo hi (ix2 i j)
      = (a (ix2 i j) : EReal) + (half e t (wd0 (prevWord v 6#32)) (fun d j => lo (ix3 0 d j)) i j + half e t (wd1 b) (fun d j => hi (ix3 0 d j)) i j) := by
  rw [← two_halves]
  pointwise [k0_pay23, k0_pay22]

/-- The last: the sum completed, kept where the token's place is below the capacity. -/
theorem last_at (oh pl : FVec Ideal S256x256 .f32) (cn : FVec Ideal S8x1x256 .bf16) :
    k0_pay25 (F := Ideal) v e oh t pl a b (k0_pay24 v e) lo hi cn (ix2 i j)
      = if (∑ k : Fin 256, (oh (ix2 i k) : EReal) * ((pl (ix2 i k) : EReal)
            + ∑ p : Fin 8, (cn (ix3 p 0 k) : EReal) * (FloatOps.sitofp .f32 (BitVec.setWidth 32 (IntOp.cmpi .slt (BitVec.ofNat 32 p.val) v)) : Ideal .f32)))
          < Ideal.ofBits .f32 0x42CC0000#32
        then (a (ix2 i j) : EReal) + (half e t (wd0 (prevWord v 7#32)) (fun d j => lo (ix3 0 d j)) i j + half e t (wd1 b) (fun d j => hi (ix3 0 d j)) i j)
        else 0 := by
  rw [← two_halves, ← bit_mul]
  pointwise [k0_pay25, k0_pay24]
  exact congrArg (· * _) (bit_of rfl)

/-- A device's column sums: how many of its tokens ask for `k`. -/
theorem column_at (k : Fin 256) :
    k0_pay5 (F := Ideal) e (ix3 (0 : Fin 1) (0 : Fin 1) k) = ∑ i : Fin 256, if e (ix2 i 0) = BitVec.ofNat 32 k.val then (1 : EReal) else 0 := by
  pointwise [k0_pay5, k0_pay2, k0_pay1]
  exact Finset.sum_congr rfl fun i _ => mask_eq _ _

/-- The one-hot row of a token, -/
theorem hot_at (k : Fin 256) :
    k0_pay2 (F := Ideal) e (ix2 i k) = if e (ix2 i 0) = BitVec.ofNat 32 k.val then (1 : EReal) else 0 := by
  pointwise [k0_pay2, k0_pay1]
  exact mask_eq _ _

/-- and how many of the tokens before it on its own device ask for `k`. -/
theorem place_at (k : Fin 256) :
    k0_pay7 (F := Ideal) (k0_pay2 e) (ix2 i k)
      = ∑ u : Fin 256, if u.val < i.val then (if e (ix2 u 0) = BitVec.ofNat 32 k.val then (1 : EReal) else 0) else 0 := by
  pointwise [k0_pay7, k0_pay2, k0_pay1]
  refine Finset.sum_congr rfl fun u _ => ?_
  rw [mask_eq, mask_gt _ _ i.isLt u.isLt, bit_mul]

/-- The slab's first 128 rows are the first expert's matrix, the next 128 the second's. -/
theorem slab_lo (w : Vec Ideal S2x128x256 .f32) (d : Fin 128) :
    k0_pay4 (F := Ideal) w (ix3 (0 : Fin 1) (⟨d.val, by omega⟩ : Fin 256) j) = w (ix3 0 d j) := by
  pointwise [k0_pay4, k0_pay3]
  exact congrArg w (congrArg₂ (fun (a : Fin 2) (b : Fin 128) => ix3 a b j) (Fin.ext (Nat.div_eq_of_lt d.isLt)) (Fin.ext (Nat.mod_eq_of_lt d.isLt)))

theorem slab_hi (w : Vec Ideal S2x128x256 .f32) (d : Fin 128) :
    k0_pay4 (F := Ideal) w (ix3 (0 : Fin 1) (⟨128 + d.val, by omega⟩ : Fin 256) j) = w (ix3 1 d j) := by
  pointwise [k0_pay4, k0_pay3]
  exact congrArg w (congrArg (fun a => ix3 a d j) (Fin.ext (show (128 + d.val) / 128 = 1 by omega)))

end Payloads

end Cert.Routed

end
-- ==== Proof.Value.lean ====
/-
What device `c` writes is its block of the answer: its sum over the slabs, device by device, is the sum over the sixteen
experts, and its count of a token's place is the count over all tokens before.
-/
module

public import proofs.«01_k».proof.Proof.Payloads

@[expose] public section

noncomputable section

namespace Cert.Routed

open Cert.KernelIdeal Cert.KernelIdeal.Gen

open Idealize.ShloMosaic
open Idealize.ShloMosaic.TcCoe

/-! ## The words -/

theorem me_eq : ∀ c : Dev nD, me c = BitVec.ofNat 32 c.val := by decide
theorem wd0_own : ∀ c : Dev nD, wd0 (me c) = BitVec.ofNat 32 (2 * c.val + 0) := by decide
theorem wd1_own : ∀ c : Dev nD, wd1 (me c) = BitVec.ofNat 32 (2 * c.val + 1) := by decide
theorem wd0_behind : ∀ (c : Dev nD) (k : Peer), wd0 (behind c (BitVec.ofNat 32 (1 + k.val))) = BitVec.ofNat 32 (2 * (src c k).val + 0) := by decide
theorem wd1_behind : ∀ (c : Dev nD) (k : Peer), wd1 (behind c (BitVec.ofNat 32 (1 + k.val))) = BitVec.ofNat 32 (2 * (src c k).val + 1) := by decide

section Value

variable (m : (ℓ : Loc nD τ sig) → Buf (Elt Ideal) ℓ) (ρ : Dev nD → PrngReg) (c : Dev nD)
variable (X : Fin 2048 → Fin 128 → EReal) (I : Fin 2048 → BitVec 32) (W : Fin 16 → Fin 128 → Fin 256 → EReal)

/-- Each device's staged blocks are its blocks of the whole arrays. -/
structure Blocks : Prop where
  x : ∀ (p : Fin 8) (i : Fin 256) (d : Fin 128), xstg m ρ p (ix2 i d) = X (token p i) d
  i : ∀ (p : Fin 8) (i : Fin 256), istg m ρ p (ix2 i (0 : Fin 1)) = I (token p i)
  w : ∀ (p : Fin 8) (e : Fin 2) (d : Fin 128) (j : Fin 256), wstg m ρ p (ix3 e d j) = W (expert p e) d j

/-- What the two experts of device `p` contribute to a token. -/
def share (i j : Fin 256) (p : Fin 8) : EReal :=
  (if I (token c i) = BitVec.ofNat 32 (expert p 0).val then prod X W (token c i) (expert p 0) j else 0)
    + (if I (token c i) = BitVec.ofNat 32 (expert p 1).val then prod X W (token c i) (expert p 1) j else 0)

variable {m ρ X I W} (H : Blocks m ρ X I W) (i j : Fin 256)
include H

theorem eidx_at (k : Fin 256) : eidx m ρ c (ix2 k (0 : Fin 1)) = I (token c k) := by
  refine Eq.trans ?_ (H.i c k)
  pointwise [k0_pay1]

theorem tok_at (d : Fin 128) : (tok m ρ c (ix2 i d) : EReal) = X (token c i) d := by
  refine Eq.trans ?_ (H.x c i d)
  pointwise [k0_pay6]

theorem half_at (w : BitVec 32) (M : Fin 128 → Fin 256 → EReal) (e : Fin 16) (hw : w = BitVec.ofNat 32 e.val) (hM : ∀ d, M d j = W e d j) :
    half (eidx m ρ c) (tok m ρ c) w M i j = if I (token c i) = BitVec.ofNat 32 e.val then prod X W (token c i) e j else 0 := by
  unfold half prod
  rw [eidx_at c H, hw]
  refine if_congr Iff.rfl (Finset.sum_congr rfl fun d _ => ?_) rfl
  rw [tok_at c H, hM]

theorem wLo_W (k : Peer) (d : Fin 128) : (wLo m ρ c k (ix3 (0 : Fin 1) d j) : EReal) = W (expert (src c k) 0) d j := by
  refine (wLo_at m ρ c k d j).trans ((dif_pos (show d.val < 256 by omega)).trans ?_)
  exact (slab_lo j (wstg m ρ (src c k)) d).trans (H.w (src c k) 0 d j)

theorem wHi_W (k : Peer) (d : Fin 128) : (wHi m ρ c k (ix3 (0 : Fin 1) d j) : EReal) = W (expert (src c k) 1) d j := by
  refine (wHi_at m ρ c k d j).trans ((dif_pos (show 128 + d.val < 256 by omega)).trans ?_)
  exact (slab_hi j (wstg m ρ (src c k)) d).trans (H.w (src c k) 1 d j)

theorem counts_W (p : Fin 8) (k : Fin 256) :
    (counts m ρ (ix3 p (0 : Fin 1) k) : EReal) = ∑ u : Fin 256, if I (token p u) = BitVec.ofNat 32 k.val then (1 : EReal) else 0 := by
  refine (counts_at m ρ p k).trans ((dif_neg (show ¬ 256 < 256 by omega)).trans ?_)
  refine (column_at (istg m ρ p) k).trans (Finset.sum_congr rfl fun u _ => ?_)
  rw [H.i p u]

/-- What one step adds: the share of the device it reads. -/
theorem step_share (k : Peer) :
    half (eidx m ρ c) (tok m ρ c) (wd0 (behind c (BitVec.ofNat 32 (1 + k.val)))) (fun d j => wLo m ρ c k (ix3 0 d j)) i j
        + half (eidx m ρ c) (tok m ρ c) (wd1 (behind c (BitVec.ofNat 32 (1 + k.val)))) (fun d j => wHi m ρ c k (ix3 0 d j)) i j
      = share c X I W i j (src c k) := by
  unfold share
  rw [half_at c H i j _ _ (expert (src c k) 0) (wd0_behind c k) (wLo_W c H j k), half_at c H i j _ _ (expert (src c k) 1) (wd1_behind c k) (wHi_W c H j k)]

theorem acc0_at : (acc0 m ρ c (ix2 i j) : EReal) = share c X I W i j c := by
  unfold share
  rw [← half_at c H i j (wd0 (me c)) (fun d j => wstg m ρ c (ix3 0 d j)) (expert c 0) (wd0_own c) (fun d => H.w c 0 d j),
    ← half_at c H i j (wd1 (me c)) (fun d j => wstg m ρ c (ix3 1 d j)) (expert c 1) (wd1_own c) (fun d => H.w c 1 d j)]
  exact own_at _ _ _ _ _ _

theorem acc1_at : (acc1 m ρ c (ix2 i j) : EReal) = acc0 m ρ c (ix2 i j) + share c X I W i j (src c 0) := by
  rw [← step_share c H i j 0]
  exact step1_at _ _ _ _ _ _ _ _ _

theorem acc2_at : (acc2 m ρ c (ix2 i j) : EReal) = acc1 m ρ c (ix2 i j) + share c X I W i j (src c 1) := by
  rw [← step_share c H i j 1]
  exact step2_at _ _ _ _ _ _ _ _ _

theorem acc3_at : (acc3 m ρ c (ix2 i j) : EReal) = acc2 m ρ c (ix2 i j) + share c X I W i j (src c 2) := by
  rw [← step_share c H i j 2]
  exact step3_at _ _ _ _ _ _ _ _ _

theorem acc4_at : (acc4 m ρ c (ix2 i j) : EReal) = acc3 m ρ c (ix2 i j) + share c X I W i j (src c 3) := by
  rw [← step_share c H i j 3]
  exact step4_at _ _ _ _ _ _ _ _ _

theorem acc5_at : (acc5 m ρ c (ix2 i j) : EReal) = acc4 m ρ c (ix2 i j) + share c X I W i j (src c 4) := by
  rw [← step_share c H i j 4]
  exact step5_at _ _ _ _ _ _ _ _ _

theorem acc6_at : (acc6 m ρ c (ix2 i j) : EReal) = acc5 m ρ c (ix2 i j) + share c X I W i j (src c 5) := by
  rw [← step_share c H i j 5]
  exact step6_at _ _ _ _ _ _ _ _ _

/-- The sum over the slabs is the product with the matrix of the expert the token asks for. -/
theorem sum_at : (acc6 m ρ c (ix2 i j) : EReal) + share c X I W i j (src c 6) = routed X I W (token c i) j := by
  rw [acc6_at c H, acc5_at c H, acc4_at c H, acc3_at c H, acc2_at c H, acc1_at c H, acc0_at c H]
  have hp : (∑ p : Fin 8, share c X I W i j p) = share c X I W i j c + ∑ k : Peer, share c X I W i j (src c k) := by
    refine (Finset.add_sum_erase Finset.univ (share c X I W i j) (Finset.mem_univ (c : Fin 8))).symm.trans (congrArg (share c X I W i j c + ·) ?_)
    refine (Finset.sum_congr (univ_src c) fun _ _ => rfl).trans ?_
    exact Finset.sum_map _ _ _
  unfold routed
  rw [sum_expert]
  refine Eq.trans ?_ hp.symm
  rw [Fin.sum_univ_seven]
  simp only [add_assoc]

/-- The place the kernel counts for a token, expert by expert. -/
theorem count_at (k : Fin 256) :
    (place m ρ c (ix2 i k) : EReal)
        + ∑ p : Fin 8, (counts m ρ (ix3 p 0 k) : EReal) * (FloatOps.sitofp .f32 (BitVec.setWidth 32 (IntOp.cmpi .slt (BitVec.ofNat 32 p.val) (me c))) : Ideal .f32)
      = hits I (token c i) (BitVec.ofNat 32 k.val) := by
  rw [hits_token]
  congr 1
  · refine (place_at (istg m ρ c) i k).trans (Finset.sum_congr rfl fun u _ => ?_)
    rw [H.i c u]
  · refine Finset.sum_congr rfl fun p _ => ?_
    rw [me_eq, mask_lt _ _ (by omega) (by have : c.val < 8 := c.isLt; omega), mul_bit, counts_W H]

/-- What device `c` writes, at an index: the answer for its token. -/
theorem outAt_at : (outAt m ρ c (ix2 i j) : EReal) = answer (Ideal.ofBits .f32 0x42CC0000#32) X I W (token c i) j := by
  rw [← answer_of (n := 256) (by norm_num) (by norm_num), ← sum_at c H, ← step_share c H i j 6]
  refine (last_at _ _ _ _ _ _ _ _ _ _ _ _).trans ?_
  have key : ∀ {p q a : EReal}, p = q → (if p < Ideal.ofBits .f32 0x42CC0000#32 then a else 0) = if q < Ideal.ofBits .f32 0x42CC0000#32 then a else 0 := by
    intro p q a h
    rw [h]
  refine key (Finset.sum_congr rfl fun k _ => ?_)
  rw [count_at c H]
  rw [show (onehot m ρ c (ix2 i k) : EReal) = if I (token c i) = BitVec.ofNat 32 k.val then 1 else 0 from
    (hot_at (istg m ρ c) i k).trans (by rw [H.i c i]), bit_mul]

end Value

end Cert.Routed

end
-- ==== Proof.Ref.lean ====
/-
What the reference computes: its running sum of one-hot rows counts the tokens up to each token, so that less the token's
own row it counts those before; the sum over experts of that count against the one-hot row is the token's place.
-/
module

public import proofs.«01_k».proof.Proof.Spec
public import proofs.«01_k».proof.Proof.Gen.ReferenceIdeal.Run

@[expose] public section

noncomputable section

namespace Cert.Routed

open Cert.ReferenceIdeal Cert.ReferenceIdeal.Gen
open Idealize.ShloMosaic Idealize.ShloMosaic.TcCoe Idealize.SL.Sem

/-- The answer as a whole array, of the whole arrays. -/
def whole (X : FVec Ideal S2048x128 .f32) (I : IVec S2048x1 32) (W : FVec Ideal S16x128x256 .f32) : FVec Ideal S2048x256 .f32 := fun i =>
  answer (Ideal.ofBits .f32 0x42CC0000#32) (fun t d => X (ix2 t d)) (fun t => I (ix2 t 0)) (fun e d j => W (ix3 e d j)) (i 0) (i 1)

/-! ## The running sum -/

theorem fold_add {α : Type} (g : α → EReal) (l : List α) : ∀ v : EReal, l.foldl (fun r n => r + g n) v = v + (l.map g).sum := by
  induction l with
  | nil => intro v; simp
  | cons a l ih => intro v; rw [List.foldl_cons, ih, List.map_cons, List.sum_cons, add_assoc]

/-- A window of all 2048 places that ends at place `t`, what lies before place 0 being zero: the places up to `t`. -/
theorem window_sum (f : Fin 2048 → EReal) (t : Fin 2048) :
    (∑ a : Fin 2048, if h : 2047 ≤ t.val + a.val then f ⟨t.val + a.val - 2047, by omega⟩ else 0) = ∑ u : Fin 2048, if u ≤ t then f u else 0 := by
  have ht := t.isLt
  rw [← Finset.sum_filter]
  have e : ∀ a : Fin 2048, (if h : 2047 ≤ t.val + a.val then f ⟨t.val + a.val - 2047, by omega⟩ else 0)
      = if 2047 ≤ t.val + a.val then f ⟨t.val + a.val - 2047, by omega⟩ else 0 := fun a => by split <;> rfl
  rw [Finset.sum_congr rfl fun a _ => e a, ← Finset.sum_filter]
  refine Finset.sum_nbij' (fun a => (⟨t.val + a.val - 2047, by omega⟩ : Fin 2048)) (fun u => (⟨(u.val + 2047 - t.val) % 2048, by omega⟩ : Fin 2048)) ?_ ?_ ?_ ?_ ?_
  · intro a ha
    rw [Finset.mem_filter] at ha ⊢
    refine ⟨Finset.mem_univ _, ?_⟩
    show t.val + a.val - 2047 ≤ t.val
    omega
  · intro u hu
    rw [Finset.mem_filter] at hu ⊢
    have h : u.val ≤ t.val := hu.2
    refine ⟨Finset.mem_univ _, ?_⟩
    show 2047 ≤ t.val + (u.val + 2047 - t.val) % 2048
    omega
  · intro a ha
    have h := (Finset.mem_filter.mp ha).2
    refine Fin.ext ?_
    show (t.val + a.val - 2047 + 2047 - t.val) % 2048 = a.val
    omega
  · intro u hu
    have h : u.val ≤ t.val := (Finset.mem_filter.mp hu).2
    refine Fin.ext ?_
    show t.val + (u.val + 2047 - t.val) % 2048 - 2047 = u.val
    omega
  · exact fun _ _ => rfl

/-- The running sum down the columns, at an index. -/
theorem running (x : FVec Ideal S2048x16 .f32) (init : FVec Ideal S_ .f32) (h0 : init (Shape.Idx.first h_S_) = 0) (t : Fin 2048) (e : Fin 16) :
    Host.reduceWindowAdd ![2048, 1] ![1, 1] ![2047, 0] ![0, 0] x init reduceWindows_S2048x16_S2048x16_w2048s1p2047_0_w1s1p0_0 h_S_ (ix2 t e)
      = ∑ u : Fin 2048, if u ≤ t then (x (ix2 u e) : EReal) else 0 := by
  have ht := t.isLt
  unfold Host.reduceWindowAdd
  rw [h0]
  show Ideal.hostReduceWindowAdd _ _ _ _ _ _ _ _ = _
  unfold Ideal.hostReduceWindowAdd Host.reduceWindow
  refine (fold_add _ _ _).trans ?_
  rw [zero_add, ← Fin.sum_univ_def]
  refine (Equiv.sum_comp (Shape.rowMajor (⟨2, ![2048, 1]⟩ : Shape)) _).symm.trans ?_
  rw [sum_idx2, ← window_sum (fun u => x (ix2 u e)) t]
  refine Finset.sum_congr rfl fun a _ => ?_
  have ha := a.isLt
  rw [Fin.sum_univ_one]
  simp only [Equiv.symm_apply_apply]
  by_cases h : 2047 ≤ t.val + a.val
  · rw [dif_pos h, dif_pos (fun b => by
      match b with
      | ⟨0, _⟩ =>
        show 2047 ≤ t.val * 1 + a.val ∧ t.val * 1 + a.val - 2047 < 2048
        omega
      | ⟨1, _⟩ =>
        show 0 ≤ e.val * 1 + 0 ∧ e.val * 1 + 0 - 0 < 16
        omega)]
    refine congrArg x (funext fun b => Fin.ext ?_)
    match b with
    | ⟨0, _⟩ =>
      show t.val * 1 + a.val - 2047 = t.val + a.val - 2047
      omega
    | ⟨1, _⟩ =>
      show e.val * 1 + 0 - 0 = e.val
      omega
  · rw [dif_neg h, dif_neg (fun hb => h (by
      have := (hb ⟨0, by decide⟩).1
      change 2047 ≤ t.val * 1 + a.val at this
      omega))]

/-- Counting the tokens up to `t` and taking `t` itself off again counts those before. -/
theorem before (I : Fin 2048 → BitVec 32) (t : Fin 2048) (w : BitVec 32) :
    (∑ u : Fin 2048, if u ≤ t then (if I u = w then (1 : EReal) else 0) else 0) - (if I t = w then 1 else 0) = hits I t w := by
  have h : (∑ u : Fin 2048, if u ≤ t then (if I u = w then (1 : EReal) else 0) else 0) = hits I t w + ((if I t = w then (1 : ℝ) else 0 : ℝ) : EReal) := by
    have e : ∀ u : Fin 2048, (if u ≤ t then (if I u = w then (1 : EReal) else 0) else 0)
        = (if u < t then (if I u = w then (1 : EReal) else 0) else 0) + (if u = t then ((if I t = w then (1 : ℝ) else 0 : ℝ) : EReal) else 0) := by
      intro u
      rcases lt_trichotomy u t with h | h | h
      · rw [if_pos h.le, if_pos h, if_neg h.ne, add_zero]
      · subst h
        rw [if_pos le_rfl, if_neg (lt_irrefl _), if_pos rfl, zero_add]
        split <;> simp
      · rw [if_neg (not_le.mpr h), if_neg (not_lt.mpr h.le), if_neg h.ne', add_zero]
    rw [Finset.sum_congr rfl fun u _ => e u, Finset.sum_add_distrib, Finset.sum_ite_eq' Finset.univ t, if_pos (Finset.mem_univ _)]
    rfl
  rw [h, show (if I t = w then (1 : EReal) else 0) = ((if I t = w then (1 : ℝ) else 0 : ℝ) : EReal) by split <;> simp, EReal.add_sub_cancel_right]

/-! ## The run -/

theorem hot_eq (a b : BitVec 32) : (FloatOps.uitofp .f32 (IntOp.cmpi .eq a b) : Ideal .f32) = if a = b then (1 : EReal) else 0 := by
  by_cases h : a = b
  · subst h
    show (((BitVec.ofBool (a == a)).toNat : ℝ) : EReal) = _
    simp
  · show (((BitVec.ofBool (a == b)).toNat : ℝ) : EReal) = _
    simp [h]

set_option maxRecDepth 16384 in
/-- The reference ends with its result at the answer, its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20)
        = whole (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
      clear h
      generalize m ((c.tc : Thread nD τ).loc main_arg0) = X
      generalize m ((c.tc : Thread nD τ).loc main_arg2) = I
      generalize m ((c.tc : Thread nD τ).loc main_arg3) = W
      funext i
      change S2048x256.Idx at i
      idx_vars i
      pointwise [whole]
      rw [← answer_of (n := 16) le_rfl (by norm_num)]
      have z : (id (constant (F := Ideal) S_ .f32 0#32) ix0 : EReal) = 0 := Ideal.ofBits_zero_f32
      rw [z]
      have key : ∀ {p q a b : EReal}, p = q → a = b → (if p < Ideal.ofBits .f32 0x42CC0000#32 then a else 0) = if q < Ideal.ofBits .f32 0x42CC0000#32 then b else 0 := by
        intro p q a b h h'
        rw [h, h']
      refine key (Finset.sum_congr rfl fun e _ => ?_) (Finset.sum_congr rfl fun e _ => ?_)
      · rw [running _ _ (by pointwise)]
        simp only [hot_eq]
        rw [bit_mul]
        refine if_congr Iff.rfl ?_ rfl
        pointwise
        simp only [hot_eq]
        exact before (fun u => I (ix2 u 0)) i0 _
      · rw [hot_eq, bit_mul]
        exact if_congr Iff.rfl (Finset.sum_congr rfl fun d _ => mul_comm _ _) rfl), (h c).2⟩) (Value.run (F := Ideal) m ρ)

end Cert.Routed

end
-- ==== Proof.Equation.lean ====
/-
The equation: when each device's arguments are its blocks of the whole arrays, what it writes is its block of what the
reference computes of them.
-/
module

public import proofs.«01_k».proof.Proof.Value
public import proofs.«01_k».proof.Proof.Ref
public import Idealize.ShloMosaic.Lib.Layout

@[expose] public section

noncomputable section

namespace Cert.Routed

open Cert.KernelIdeal Cert.KernelIdeal.Gen

open Idealize.ShloMosaic
open Idealize.ShloMosaic.TcCoe

variable {m : (ℓ : Loc nD τ sig) → Buf (Elt Ideal) ℓ} (ρ : Dev nD → PrngReg)
variable {X : FVec Ideal ⟨2, ![2048, 128]⟩ .f32} {I : IVec ⟨2, ![2048, 1]⟩ 32} {W : FVec Ideal ⟨3, ![16, 128, 256]⟩ .f32}

theorem blocks_of (hx : ∀ c : Dev nD, m ((c : Thread nD τ).loc main_arg0) = Layout.block ⟨2, ![256, 128]⟩ ⟨2, ![2048, 128]⟩ 0 8 c X)
    (hi : ∀ c : Dev nD, m ((c : Thread nD τ).loc main_arg2) = Layout.block ⟨2, ![256, 1]⟩ ⟨2, ![2048, 1]⟩ 0 8 c I)
    (hw : ∀ c : Dev nD, m ((c : Thread nD τ).loc main_arg3) = Layout.block ⟨3, ![2, 128, 256]⟩ ⟨3, ![16, 128, 256]⟩ 0 8 c W) :
    Blocks m ρ (fun t d => X (ix2 t d)) (fun t => I (ix2 t 0)) (fun e d j => W (ix3 e d j)) where
  x p i d := by
    rw [xstg_eq, hx]
    refine congrArg X (funext fun a => Fin.ext ?_)
    match a with
    | ⟨0, _⟩ => show p.val * 256 + i.val = 256 * p.val + i.val; omega
    | ⟨1, _⟩ => rfl
  i p i := by
    rw [istg_eq, hi]
    refine congrArg I (funext fun a => Fin.ext ?_)
    match a with
    | ⟨0, _⟩ => show p.val * 256 + i.val = 256 * p.val + i.val; omega
    | ⟨1, _⟩ => rfl
  w p e d j := by
    rw [wstg_eq, hw]
    refine congrArg W (funext fun a => Fin.ext ?_)
    match a with
    | ⟨0, _⟩ => show p.val * 2 + e.val = 2 * p.val + e.val; omega
    | ⟨1, _⟩ => rfl
    | ⟨2, _⟩ => rfl

/-- What device `c` writes is block `c` of the answer. -/
theorem outAt_block (hx : ∀ c : Dev nD, m ((c : Thread nD τ).loc main_arg0) = Layout.block ⟨2, ![256, 128]⟩ ⟨2, ![2048, 128]⟩ 0 8 c X)
    (hi : ∀ c : Dev nD, m ((c : Thread nD τ).loc main_arg2) = Layout.block ⟨2, ![256, 1]⟩ ⟨2, ![2048, 1]⟩ 0 8 c I)
    (hw : ∀ c : Dev nD, m ((c : Thread nD τ).loc main_arg3) = Layout.block ⟨3, ![2, 128, 256]⟩ ⟨3, ![16, 128, 256]⟩ 0 8 c W) (c : Dev nD) :
    outAt m ρ c = Layout.block ⟨2, ![256, 256]⟩ ⟨2, ![2048, 256]⟩ 0 8 c (whole X I W) := by
  funext i
  obtain ⟨a, b, rfl⟩ : ∃ (a b : Fin 256), i = ix2 a b := ⟨i 0, i 1, eq_ix2 i⟩
  refine (outAt_at c (blocks_of ρ hx hi hw) a b).trans ?_
  refine congrArg₂ (answer _ (fun t d => X (ix2 t d)) (fun t => I (ix2 t 0)) (fun e d j => W (ix3 e d j))) (Fin.ext ?_) (Fin.ext ?_)
  · show 256 * c.val + a.val = c.val * 256 + a.val
    omega
  · rfl

end Cert.Routed

end
-- ==== Proof.lean ====
/-
The five claims put together: the kernel's frame over bit patterns and over the extended reals, both from the one run that
Proof/Launch.lean proves for any float values; the reference's frame; that the ideal kernel is the kernel's own text; and
that what the devices write are the blocks of what the reference computes.
-/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

open Cert.KernelIdeal Idealize.ShloMosaic.TcCoe in
/-- The frame for any float values: the arguments end as they began, and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨(h.1 c 0).trans (Routed.finalA_in m ρ c 0 (by decide)), (h.1 c 1).trans (Routed.finalA_in m ρ c 1 (by decide)),
      (h.1 c 2).trans (Routed.finalA_in m ρ c 2 (by decide)), (h.1 c 3).trans (Routed.finalA_in m ρ c 3 (by decide))⟩, h.2⟩)
    (Routed.run_main (F := F) m ρ)

attribute [local instance] Cert.Kernel.Gen.facts Cert.KernelIdeal.Gen.facts in
/-- The kernel's body table and the ideal kernel's are one table, read at bit patterns: the text is the same, -/
theorem defs₀_eq : @Cert.Kernel.defs₀ Bits _ _ = @Cert.KernelIdeal.defs₀ Bits _ _ := by
  unfold Cert.Kernel.defs₀ Cert.KernelIdeal.defs₀
  refine congrArg Defs.onTc ?_
  funext k a
  obtain ⟨k, hk⟩ := k
  obtain rfl : k = 0 := by omega
  obtain ⟨t, s⟩ := a
  rfl

attribute [local instance] Cert.Kernel.Gen.facts Cert.KernelIdeal.Gen.facts in
/-- and with it the table of the whole program. -/
theorem defs_eq : @Cert.Kernel.defs Bits _ _ = @Cert.KernelIdeal.defs Bits _ _ := congrArg (Pipeline.defs _) defs₀_eq

attribute [local instance] Cert.Kernel.Gen.facts Cert.KernelIdeal.Gen.facts in
/-- The kernel's frame, over bit patterns: its text is the ideal kernel's, read at bit patterns. -/
theorem frame_kernel : quiescent_Kernel (hKernel := Cert.Kernel.Gen.facts) := fun m ρ _ => by
  rw [defs_eq]
  exact frame_any (F := Bits) m ρ

/-- The same over the extended reals. -/
theorem frame_ideal : quiescent_KernelIdeal (hKernelIdeal := Cert.KernelIdeal.Gen.facts) := fun m ρ _ => frame_any (F := Ideal) m ρ

/-- The reference's frame: it declares no semaphore. -/
theorem frame_reference : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel over eight devices computes what the reference computes, over the extended reals. -/
theorem equation : algebraic_KernelIdeal_ReferenceIdeal (hKernelIdeal := Cert.KernelIdeal.Gen.facts) (hReferenceIdeal := Cert.ReferenceIdeal.Gen.facts) :=
  fun m ρ m' ρ' _ h =>
    ⟨_, (θ_run Cert.KernelIdeal.defs _ _).mono
      (fun _ hr c => ⟨((hr.1 c 4).trans (Routed.finalA_out m ρ c)).trans
          (Routed.outAt_block ρ (fun c => (h c).1) (fun c => (h c).2.2.1) (fun c => (h c).2.2.2) c),
        (hr.1 c 0).trans (Routed.finalA_in m ρ c 0 (by decide)), (hr.1 c 1).trans (Routed.finalA_in m ρ c 1 (by decide)),
        (hr.1 c 2).trans (Routed.finalA_in m ρ c 2 (by decide)), (hr.1 c 3).trans (Routed.finalA_in m ρ c 3 (by decide))⟩)
      (Routed.run_main (F := Ideal) m ρ),
     (θ_run Cert.ReferenceIdeal.defs _ _).mono (fun _ hr => hr 0) (Routed.ref_run m' ρ')⟩

theorem claim : Cert.Claim := ⟨Cert.Kernel.Gen.facts, Cert.KernelIdeal.Gen.facts, Cert.ReferenceIdeal.Gen.facts, frame_kernel, frame_ideal,
  frame_reference, trivial, equation⟩

end Cert.Proof

end
